-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x4096x2432 : Shape := ⟨3, ![12, 4096, 2432]⟩
abbrev S2432x64 : Shape := ⟨2, ![2432, 64]⟩
abbrev S64 : Shape := ⟨1, ![64]⟩
abbrev S12x4096x64 : Shape := ⟨3, ![12, 4096, 64]⟩
abbrev S12 : Shape := ⟨1, ![12]⟩
abbrev S64x2432 : Shape := ⟨2, ![64, 2432]⟩
abbrev S64x1 : Shape := ⟨2, ![64, 1]⟩
abbrev S12x64x4096 : Shape := ⟨3, ![12, 64, 4096]⟩
abbrev S12x4096 : Shape := ⟨2, ![12, 4096]⟩
abbrev S1x512x2432 : Shape := ⟨3, ![1, 512, 2432]⟩
abbrev S1x64x512 : Shape := ⟨3, ![1, 64, 512]⟩
abbrev S64x512 : Shape := ⟨2, ![64, 512]⟩
abbrev S512x128 : Shape := ⟨2, ![512, 128]⟩
abbrev S1x32x2432 : Shape := ⟨3, ![1, 32, 2432]⟩
abbrev S32x2432 : Shape := ⟨2, ![32, 2432]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S512x2432 : Shape := ⟨2, ![512, 2432]⟩
abbrev S128x512 : Shape := ⟨2, ![128, 512]⟩
abbrev S1x512 : Shape := ⟨2, ![1, 512]⟩
abbrev S256x512 : Shape := ⟨2, ![256, 512]⟩
abbrev S512 : Shape := ⟨1, ![512]⟩
abbrev S1 : Shape := ⟨1, ![1]⟩
abbrev S1x1x1 : Shape := ⟨3, ![1, 1, 1]⟩

abbrev nBuf : Space → Nat
  | .hbm => 20
  | .vmem => 23
  | .smem => 2
  | _ => 0

abbrev bufTy : (tb : Table) → Fin (tcTables nBuf tb) → BufTy
  | .hbm, ⟨0, _⟩ => ⟨S12x4096x2432, .bf16⟩
  | .hbm, ⟨1, _⟩ => ⟨S2432x64, .fp8e4m3⟩
  | .hbm, ⟨2, _⟩ => ⟨S64, .f32⟩
  | .hbm, ⟨3, _⟩ => ⟨S64, .f32⟩
  | .hbm, ⟨4, _⟩ => ⟨S12x4096x64, .bf16⟩
  | .hbm, ⟨5, _⟩ => ⟨S12x4096x64, .bf16⟩
  | .hbm, ⟨6, _⟩ => ⟨S12, .f32⟩
  | .hbm, ⟨7, _⟩ => ⟨S64x2432, .fp8e4m3⟩
  | .hbm, ⟨8, _⟩ => ⟨S64x1, .f32⟩
  | .hbm, ⟨9, _⟩ => ⟨S64x1, .f32⟩
  | .hbm, ⟨10, _⟩ => ⟨S12x64x4096, .bf16⟩
  | .hbm, ⟨11, _⟩ => ⟨S12x64x4096, .bf16⟩
  | .hbm, ⟨12, _⟩ => ⟨S12, .f32⟩
  | .hbm, ⟨13, _⟩ => ⟨S12x64x4096, .f32⟩
  | .hbm, ⟨14, _⟩ => ⟨S12x4096x2432, .bf16⟩
  | .hbm, ⟨15, _⟩ => ⟨S64x2432, .f32⟩
  | .hbm, ⟨16, _⟩ => ⟨S12x4096x2432, .fp8e4m3⟩
  | .hbm, ⟨17, _⟩ => ⟨S12x4096, .f32⟩
  | .hbm, ⟨18, _⟩ => ⟨S12x64x4096, .fp8e5m2⟩
  | .hbm, ⟨19, _⟩ => ⟨S12x4096, .f32⟩
  | .local _ .vmem, ⟨0, _⟩ => ⟨S1x512x2432, .bf16⟩
  | .local _ .vmem, ⟨1, _⟩ => ⟨S1x512x2432, .bf16⟩
  | .local _ .vmem, ⟨2, _⟩ => ⟨S64x2432, .fp8e4m3⟩
  | .local _ .vmem, ⟨3, _⟩ => ⟨S64x1, .f32⟩
  | .local _ .vmem, ⟨4, _⟩ => ⟨S64x1, .f32⟩
  | .local _ .vmem, ⟨5, _⟩ => ⟨S1x64x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .f32⟩
  | .local _ .vmem, ⟨10, _⟩ => ⟨S1x64x512, .f32⟩
  | .local _ .vmem, ⟨11, _⟩ => ⟨S1x512x2432, .bf16⟩
  | .local _ .vmem, ⟨12, _⟩ => ⟨S1x512x2432, .bf16⟩
  | .local _ .vmem, ⟨13, _⟩ => ⟨S64x2432, .f32⟩
  | .local _ .vmem, ⟨14, _⟩ => ⟨S1x512x2432, .fp8e4m3⟩
  | .local _ .vmem, ⟨15, _⟩ => ⟨S1x512x2432, .fp8e4m3⟩
  | .local _ .vmem, ⟨16, _⟩ => ⟨S12x4096, .f32⟩
  | .local _ .vmem, ⟨17, _⟩ => ⟨S1x64x512, .fp8e5m2⟩
  | .local _ .vmem, ⟨18, _⟩ => ⟨S1x64x512, .fp8e5m2⟩
  | .local _ .vmem, ⟨19, _⟩ => ⟨S12x4096, .f32⟩
  | .local _ .vmem, ⟨20, _⟩ => ⟨S64x2432, .bf16⟩
  | .local _ .vmem, ⟨21, _⟩ => ⟨S64x512, .f32⟩
  | .local _ .vmem, ⟨22, _⟩ => ⟨S512x128, .f32⟩
  | .local _ .smem, ⟨0, _⟩ => ⟨S12, .f32⟩
  | .local _ .smem, ⟨1, _⟩ => ⟨S12, .f32⟩
  | _, _ => ⟨S12x4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨2, ![12, 8], ![false, false]⟩

def k0_mult1 (i : grid0.Coords) : BitVec 32 :=
  let arg1 : BitVec 32 := BitVec.ofNat 32 (i 1).val
  let c512_i32 : BitVec 32 := 512#32
  let v836 : BitVec 32 := Scalar.muli arg1 c512_i32
  v836
def k0_off1 (i : grid0.Coords) : Fin 2 → Nat :=
  let arg0 : BitVec 32 := BitVec.ofNat 32 (i 0).val
  let v838 : Index := Scalar.indexCast arg0
  let arg1 : BitVec 32 := BitVec.ofNat 32 (i 1).val
  let c512_i32 : BitVec 32 := 512#32
  let v836 : BitVec 32 := Scalar.muli arg1 c512_i32
  let v837 : BitVec 32 := v836
  let v839 : Index := Scalar.indexCast v837
  ![v838.toNat, v839.toNat]
def k0_off2 (i : grid0.Coords) : Fin 1 → Nat :=
  let arg0 : BitVec 32 := BitVec.ofNat 32 (i 0).val
  let v866 : Index := Scalar.indexCast arg0
  ![v866.toNat]
def k0_cond4 (i : grid0.Coords) : BitVec 1 :=
  let arg1 : BitVec 32 := BitVec.ofNat 32 (i 1).val
  let c7_i32 : BitVec 32 := 7#32
  let v877 : BitVec 1 := Scalar.cmpi .eq arg1 c7_i32
  let v878 : BitVec 32 := Scalar.extui v877
  let c0_i32_352 : BitVec 32 := 0#32
  let v879 : BitVec 1 := Scalar.cmpi .ne v878 c0_i32_352
  v879

def k0_off3 (i : grid0.Coords) : Fin 1 → Nat :=
  let arg0 : BitVec 32 := BitVec.ofNat 32 (i 0).val
  let v949 : Index := Scalar.indexCast arg0
  ![v949.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x2432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2432 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S64x2432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2432 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S12x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x512 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S12x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S12x4096x2432 : Shape := ⟨3, ![12, 4096, 2432]⟩
abbrev S2432x64 : Shape := ⟨2, ![2432, 64]⟩
abbrev S64 : Shape := ⟨1, ![64]⟩
abbrev S12x4096x64 : Shape := ⟨3, ![12, 4096, 64]⟩
abbrev S12 : Shape := ⟨1, ![12]⟩
abbrev S12x64x4096 : Shape := ⟨3, ![12, 64, 4096]⟩
abbrev S64x2432 : Shape := ⟨2, ![64, 2432]⟩
abbrev S12x4096 : Shape := ⟨2, ![12, 4096]⟩
abbrev S12x4096x1 : Shape := ⟨3, ![12, 4096, 1]⟩
abbrev S1x1x253 : Shape := ⟨3, ![1, 1, 253]⟩
abbrev S12x4096x253 : Shape := ⟨3, ![12, 4096, 253]⟩
abbrev S1x1x64 : Shape := ⟨3, ![1, 1, 64]⟩
abbrev S12x1x1 : Shape := ⟨3, ![12, 1, 1]⟩
abbrev S1x64 : Shape := ⟨2, ![1, 64]⟩

abbrev nBuf : Space → Nat
  | .hbm => 15
  | .vmem => 15
  | .smem => 0
  | _ => 0

abbrev bufTy : (tb : Table) → Fin (tcTables nBuf tb) → BufTy
  | .hbm, ⟨0, _⟩ => ⟨S12x4096x2432, .bf16⟩
  | .hbm, ⟨1, _⟩ => ⟨S2432x64, .fp8e4m3⟩
  | .hbm, ⟨2, _⟩ => ⟨S64, .f32⟩
  | .hbm, ⟨3, _⟩ => ⟨S64, .f32⟩
  | .hbm, ⟨4, _⟩ => ⟨S12x4096x64, .bf16⟩
  | .hbm, ⟨5, _⟩ => ⟨S12x4096x64, .bf16⟩
  | .hbm, ⟨6, _⟩ => ⟨S12, .f32⟩
  | .hbm, ⟨7, _⟩ => ⟨S12, .f32⟩
  | .hbm, ⟨8, _⟩ => ⟨S12x64x4096, .f32⟩
  | .hbm, ⟨9, _⟩ => ⟨S12x4096x2432, .bf16⟩
  | .hbm, ⟨10, _⟩ => ⟨S64x2432, .f32⟩
  | .hbm, ⟨11, _⟩ => ⟨S12x4096x2432, .fp8e4m3⟩
  | .hbm, ⟨12, _⟩ => ⟨S12x4096, .f32⟩
  | .hbm, ⟨13, _⟩ => ⟨S12x64x4096, .fp8e5m2⟩
  | .hbm, ⟨14, _⟩ => ⟨S12x4096, .f32⟩
  | .local _ .vmem, ⟨0, _⟩ => ⟨S12x4096x2432, .bf16⟩
  | .local _ .vmem, ⟨1, _⟩ => ⟨S2432x64, .fp8e4m3⟩
  | .local _ .vmem, ⟨2, _⟩ => ⟨S64, .f32⟩
  | .local _ .vmem, ⟨3, _⟩ => ⟨S64, .f32⟩
  | .local _ .vmem, ⟨4, _⟩ => ⟨S12x4096x64, .bf16⟩
  | .local _ .vmem, ⟨5, _⟩ => ⟨S12x4096x64, .bf16⟩
  | .local _ .vmem, ⟨6, _⟩ => ⟨S12, .f32⟩
  | .local _ .vmem, ⟨7, _⟩ => ⟨S12, .f32⟩
  | .local _ .vmem, ⟨8, _⟩ => ⟨S12x64x4096, .f32⟩
  | .local _ .vmem, ⟨9, _⟩ => ⟨S12x4096x2432, .bf16⟩
  | .local _ .vmem, ⟨10, _⟩ => ⟨S64x2432, .f32⟩
  | .local _ .vmem, ⟨11, _⟩ => ⟨S12x4096x2432, .fp8e4m3⟩
  | .local _ .vmem, ⟨12, _⟩ => ⟨S12x4096, .f32⟩
  | .local _ .vmem, ⟨13, _⟩ => ⟨S12x64x4096, .fp8e5m2⟩
  | .local _ .vmem, ⟨14, _⟩ => ⟨S12x4096, .f32⟩
  | _, _ => ⟨S12x4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S12x4096x2432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2432x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4096x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x4096x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x64x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x4096x2432 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x2432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x4096x2432 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x64x4096 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KRuns.lean ====
/- What the kernel's runs at the four kinds of grid point are stated over: when each branch is taken, and the staging
   and scratch buffers by name. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 8 :=
  (by decide +kernel : ∀ t : Fin grid0.N, cond0_2 (grid0.coords t) ↔ 1 ≤ t.val % 8)

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin cfg0.N, cond0_3 (grid0.coords t) ↔ t.val % 8 = 7 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S12 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2432 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2432 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S12 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x2432 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x2432 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x2432 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x4096 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x64x512 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x4096 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S64x2432 .bf16 := Memref.whole cc0_scratch0
abbrev scM0_1 : Memref sig .tc .vmem S64x512 .f32 := Memref.whole cc0_scratch1
abbrev scM0_2 : Memref sig .tc .vmem S512x128 .f32 := Memref.whole cc0_scratch2
/-- The scratch `arg18` the kernel carries between points, as a view: what it holds is stated through it. -/
abbrev VS0_1 : View sig .tc .vmem S64x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KSlabs.lean ====
/- What the kernel's body computes on one block, as functions of the blocks it reads, and how the sixteen slab stores
   of a block read back as one block. -/
module

public import proofs.«01_k».proof.Proof.KRuns
public import Idealize.ShloMosaic.Lib.VecWindow
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slabs -/

/-- Rows `32 k … 32 k + 31` of a block of 512 tokens. -/
def slab (x : Vec F S1x512x2432 .bf16) (k : ℕ) : Vec F S1x32x2432 .bf16 := fun z => x fun
  | ⟨0, _⟩ => ⟨0, Nat.one_pos⟩
  | ⟨1, _⟩ => ⟨(32 * k + (z 1).val) % 512, Nat.mod_lt _ (by decide)⟩
  | ⟨2, _⟩ => z 2

/-- A slab's load is the slab. -/
theorem ld_slab (x : Vec F S1x512x2432 .bf16) (k : ℕ) (hk : k < 16)
    (inb : ∀ a, (![0, 32 * k, 0] : Fin 3 → ℕ) a + S1x32x2432.size a ≤ S1x512x2432.size a) :
    View.ld x (Rect.unit ![0, 32 * k, 0] S1x32x2432.size inb) = slab x k := by
  funext z
  refine congrArg x (funext fun a => Fin.ext ?_)
  match a with
  | ⟨0, _⟩ => have h : (z 0).val < 1 := (z 0).isLt; show 0 + 1 * (z 0).val = 0; omega
  | ⟨1, _⟩ => have h : (z 1).val < 32 := (z 1).isLt; show 32 * k + 1 * (z 1).val = (32 * k + (z 1).val) % 512; omega
  | ⟨2, _⟩ => show 0 + 1 * (z 2).val = (z 2).val; omega

/-- The codes of one slab. -/
def hq (v : Vec F S1x32x2432 .bf16) : FVec F S1x32x2432 .fp8e4m3 := k0_pay8 (k0_pay7 v)
/-- The largest magnitude of each of a slab's rows, along 128 lanes. -/
def am (v : Vec F S1x32x2432 .bf16) : FVec F S32x128 .f32 := k0_pay9 (k0_pay6 v)

/-- The codes of a block. -/
def HB (x : Vec F S1x512x2432 .bf16) : FVec F S1x512x2432 .fp8e4m3 := fun y => hq (slab x ((y 1).val / 32)) fun
  | ⟨0, _⟩ => ⟨0, Nat.one_pos⟩
  | ⟨1, _⟩ => ⟨(y 1).val % 32, Nat.mod_lt _ (by decide)⟩
  | ⟨2, _⟩ => y 2
/-- The largest magnitude of each of a block's rows, along 128 lanes. -/
def AM (x : Vec F S1x512x2432 .bf16) : FVec F S512x128 .f32 := fun y => am (slab x ((y 0).val / 32)) fun
  | ⟨0, _⟩ => ⟨(y 0).val % 32, Nat.mod_lt _ (by decide)⟩
  | ⟨1, _⟩ => y 1

theorem HB_emb (x : Vec F S1x512x2432 .bf16) (k : ℕ)
    (inb : ∀ a, (![0, 32 * k, 0] : Fin 3 → ℕ) a + S1x32x2432.size a ≤ S1x512x2432.size a) (z : S1x32x2432.Idx) :
    hq (slab x k) z = HB x ((Rect.unit (s := S1x512x2432) ![0, 32 * k, 0] S1x32x2432.size inb).emb z) := by
  have h0 : (z 0).val < 1 := (z 0).isLt
  have h1 : (z 1).val < 32 := (z 1).isLt
  have e1 : (((Rect.unit (s := S1x512x2432) ![0, 32 * k, 0] S1x32x2432.size inb).emb z) 1).val = 32 * k + (z 1).val := by
    show 32 * k + 1 * (z 1).val = _; omega
  have e2 : (((Rect.unit (s := S1x512x2432) ![0, 32 * k, 0] S1x32x2432.size inb).emb z) 2).val = (z 2).val := by
    show 0 + 1 * (z 2).val = _; omega
  unfold HB
  rw [show (((Rect.unit (s := S1x512x2432) ![0, 32 * k, 0] S1x32x2432.size inb).emb z) 1).val / 32 = k by rw [e1]; omega]
  refine congrArg (hq (slab x k)) (funext fun a => Fin.ext ?_)
  match a with
  | ⟨0, _⟩ => show (z 0).val = 0; omega
  | ⟨1, _⟩ => show (z 1).val = (((Rect.unit (s := S1x512x2432) ![0, 32 * k, 0] S1x32x2432.size inb).emb z) 1).val % 32; rw [e1]; omega
  | ⟨2, _⟩ => exact e2.symm

theorem AM_emb (x : Vec F S1x512x2432 .bf16) (k : ℕ)
    (inb : ∀ a, (![32 * k, 0] : Fin 2 → ℕ) a + S32x128.size a ≤ S512x128.size a) (z : S32x128.Idx) :
    am (slab x k) z = AM x ((Rect.unit (s := S512x128) ![32 * k, 0] S32x128.size inb).emb z) := by
  have h1 : (z 0).val < 32 := (z 0).isLt
  have e1 : (((Rect.unit (s := S512x128) ![32 * k, 0] S32x128.size inb).emb z) 0).val = 32 * k + (z 0).val := by
    show 32 * k + 1 * (z 0).val = _; omega
  have e2 : (((Rect.unit (s := S512x128) ![32 * k, 0] S32x128.size inb).emb z) 1).val = (z 1).val := by
    show 0 + 1 * (z 1).val = _; omega
  unfold AM
  rw [show (((Rect.unit (s := S512x128) ![32 * k, 0] S32x128.size inb).emb z) 0).val / 32 = k by rw [e1]; omega]
  refine congrArg (am (slab x k)) (funext fun a => Fin.ext ?_)
  match a with
  | ⟨0, _⟩ => show (z 0).val = (((Rect.unit (s := S512x128) ![32 * k, 0] S32x128.size inb).emb z) 0).val % 32; rw [e1]; omega
  | ⟨1, _⟩ => exact e2.symm

/-! ## One payload per slab

The sixteen slabs' payloads are printed as sixteen functions; each is the first slab's. -/

section
variable (v : Vec F S1x32x2432 .bf16)
theorem hq_0 : k0_pay8 (k0_pay7 v) = hq v := rfl
theorem hq_1 : k0_pay15 (k0_pay10 v) (k0_pay13 v) (k0_pay14 v) = hq v := rfl
theorem hq_2 : k0_pay20 (k0_pay17 v) (k0_pay19 v) = hq v := rfl
theorem hq_3 : k0_pay24 (k0_pay22 v) (k0_pay23 v) = hq v := rfl
theorem hq_4 : k0_pay30 (k0_pay29 v) = hq v := rfl
theorem hq_5 : k0_pay36 (k0_pay32 v) (k0_pay34 v) k0_pay35 = hq v := rfl
theorem hq_6 : k0_pay43 (k0_pay38 v) (k0_pay40 v) (k0_pay41 v) k0_pay42 = hq v := rfl
theorem hq_7 : k0_pay49 (k0_pay45 v) (k0_pay47 v) (iota .tc S32x256 32 (@List.cons (Fin 2) (1 : Fin S32x256.rank) []) iota_S32x256_d1_w32) k0_pay48 = hq v := rfl
theorem hq_8 : k0_pay53 (k0_pay51 v) = hq v := rfl
theorem hq_9 : k0_pay59 (k0_pay57 v) (FloatOps.ofBits .f32 1138753536#32) k0_pay58 = hq v := rfl
theorem hq_10 : k0_pay66 (k0_pay61 v) (k0_pay64 v) (k0_pay65 v) = hq v := rfl
theorem hq_11 : k0_pay71 (k0_pay68 v) (k0_pay70 v) = hq v := rfl
theorem hq_12 : k0_pay76 (k0_pay73 v) (k0_pay75 v) = hq v := rfl
theorem hq_13 : k0_pay81 (k0_pay80 v) = hq v := rfl
theorem hq_14 : k0_pay86 (k0_pay83 v) (k0_pay85 v) = hq v := rfl
theorem hq_15 : k0_pay92 (k0_pay88 v) (k0_pay90 v) (k0_pay91 v) 253#32 = hq v := rfl
theorem am_0 : k0_pay9 (k0_pay6 v) = am v := rfl
theorem am_1 : k0_pay16 (k0_pay11 v) = am v := rfl
theorem am_2 : k0_pay21 (k0_pay18 v) = am v := rfl
theorem am_3 : k0_pay26 (k0_pay25 (k0_pay23 v)) = am v := rfl
theorem am_4 : k0_pay31 (k0_pay28 v) = am v := rfl
theorem am_5 : k0_pay37 (k0_pay33 v) = am v := rfl
theorem am_6 : k0_pay44 (k0_pay39 v) = am v := rfl
theorem am_7 : k0_pay50 (k0_pay46 v) = am v := rfl
theorem am_8 : k0_pay54 (k0_pay52 (k0_pay51 v)) = am v := rfl
theorem am_9 : k0_pay60 (k0_pay56 v) = am v := rfl
theorem am_10 : k0_pay67 (k0_pay62 v) = am v := rfl
theorem am_11 : k0_pay72 (k0_pay69 v) = am v := rfl
theorem am_12 : k0_pay77 (k0_pay74 v) = am v := rfl
theorem am_13 : k0_pay82 (k0_pay79 v) = am v := rfl
theorem am_14 : k0_pay87 (k0_pay84 v) = am v := rfl
theorem am_15 : k0_pay93 (k0_pay89 v) = am v := rfl
end

/-! ## The sixteen stores read as one block -/

theorem ld_slab_0 (x : Vec F S1x512x2432 .bf16) : View.ld x (Rect.unit (s := S1x512x2432) ![0, 0, 0] ![1, 32, 2432] inb_S1x512x2432_S1x32x2432_0_0_0) = slab x 0 := ld_slab x 0 (by decide) _
theorem ld_slab_1 (x : Vec F S1x512x2432 .bf16) : View.ld x (Rect.unit (s := S1x512x2432) ![0, 32, 0] ![1, 32, 2432] inb_S1x512x2432_S1x32x2432_0_32_0) = slab x 1 := ld_slab x 1 (by decide) _
theorem ld_slab_2 (x : Vec F S1x512x2432 .bf16) : View.ld x (Rect.unit (s := S1x512x2432) ![0, 64, 0] ![1, 32, 2432] inb_S1x512x2432_S1x32x2432_0_64_0) = slab x 2 := ld_slab x 2 (by decide) _
theorem ld_slab_3 (x : Vec F S1x512x2432 .bf16) : View.ld x (Rect.unit (s := S1x512x2432) ![0, 96, 0] ![1, 32, 2432] inb_S1x512x2432_S1x32x2432_0_96_0) = slab x 3 := ld_slab x 3 (by decide) _
theorem ld_slab_4 (x : Vec F S1x512x2432 .bf16) : View.ld x (Rect.unit (s := S1x512x2432) ![0, 128, 0] ![1, 32, 2432] inb_S1x512x2432_S1x32x2432_0_128_0) = slab x 4 := ld_slab x 4 (by decide) _
theorem ld_slab_5 (x : Vec F S1x512x2432 .bf16) : View.ld x (Rect.unit (s := S1x512x2432) ![0, 160, 0] ![1, 32, 2432] inb_S1x512x2432_S1x32x2432_0_160_0) = slab x 5 := ld_slab x 5 (by decide) _
theorem ld_slab_6 (x : Vec F S1x512x2432 .bf16) : View.ld x (Rect.unit (s := S1x512x2432) ![0, 192, 0] ![1, 32, 2432] inb_S1x512x2432_S1x32x2432_0_192_0) = slab x 6 := ld_slab x 6 (by decide) _
theorem ld_slab_7 (x : Vec F S1x512x2432 .bf16) : View.ld x (Rect.unit (s := S1x512x2432) ![0, 224, 0] ![1, 32, 2432] inb_S1x512x2432_S1x32x2432_0_224_0) = slab x 7 := ld_slab x 7 (by decide) _
theorem ld_slab_8 (x : Vec F S1x512x2432 .bf16) : View.ld x (Rect.unit (s := S1x512x2432) ![0, 256, 0] ![1, 32, 2432] inb_S1x512x2432_S1x32x2432_0_256_0) = slab x 8 := ld_slab x 8 (by decide) _
theorem ld_slab_9 (x : Vec F S1x512x2432 .bf16) : View.ld x (Rect.unit (s := S1x512x2432) ![0, 288, 0] ![1, 32, 2432] inb_S1x512x2432_S1x32x2432_0_288_0) = slab x 9 := ld_slab x 9 (by decide) _
theorem ld_slab_10 (x : Vec F S1x512x2432 .bf16) : View.ld x (Rect.unit (s := S1x512x2432) ![0, 320, 0] ![1, 32, 2432] inb_S1x512x2432_S1x32x2432_0_320_0) = slab x 10 := ld_slab x 10 (by decide) _
theorem ld_slab_11 (x : Vec F S1x512x2432 .bf16) : View.ld x (Rect.unit (s := S1x512x2432) ![0, 352, 0] ![1, 32, 2432] inb_S1x512x2432_S1x32x2432_0_352_0) = slab x 11 := ld_slab x 11 (by decide) _
theorem ld_slab_12 (x : Vec F S1x512x2432 .bf16) : View.ld x (Rect.unit (s := S1x512x2432) ![0, 384, 0] ![1, 32, 2432] inb_S1x512x2432_S1x32x2432_0_384_0) = slab x 12 := ld_slab x 12 (by decide) _
theorem ld_slab_13 (x : Vec F S1x512x2432 .bf16) : View.ld x (Rect.unit (s := S1x512x2432) ![0, 416, 0] ![1, 32, 2432] inb_S1x512x2432_S1x32x2432_0_416_0) = slab x 13 := ld_slab x 13 (by decide) _
theorem ld_slab_14 (x : Vec F S1x512x2432 .bf16) : View.ld x (Rect.unit (s := S1x512x2432) ![0, 448, 0] ![1, 32, 2432] inb_S1x512x2432_S1x32x2432_0_448_0) = slab x 14 := ld_slab x 14 (by decide) _
theorem ld_slab_15 (x : Vec F S1x512x2432 .bf16) : View.ld x (Rect.unit (s := S1x512x2432) ![0, 480, 0] ![1, 32, 2432] inb_S1x512x2432_S1x32x2432_0_480_0) = slab x 15 := ld_slab x 15 (by decide) _

/-- The stores of the codes. -/
abbrev hPieces (x : Vec F S1x512x2432 .bf16) : List (View.Piece (Elt F) S1x512x2432 .fp8e4m3) :=
   [⟨Rect.unit ![0, 480, 0] ![1, 32, 2432] inb_S1x512x2432_S1x32x2432_0_480_0, hq (slab x 15)⟩,
    ⟨Rect.unit ![0, 448, 0] ![1, 32, 2432] inb_S1x512x2432_S1x32x2432_0_448_0, hq (slab x 14)⟩,
    ⟨Rect.unit ![0, 416, 0] ![1, 32, 2432] inb_S1x512x2432_S1x32x2432_0_416_0, hq (slab x 13)⟩,
    ⟨Rect.unit ![0, 384, 0] ![1, 32, 2432] inb_S1x512x2432_S1x32x2432_0_384_0, hq (slab x 12)⟩,
    ⟨Rect.unit ![0, 352, 0] ![1, 32, 2432] inb_S1x512x2432_S1x32x2432_0_352_0, hq (slab x 11)⟩,
    ⟨Rect.unit ![0, 320, 0] ![1, 32, 2432] inb_S1x512x2432_S1x32x2432_0_320_0, hq (slab x 10)⟩,
    ⟨Rect.unit ![0, 288, 0] ![1, 32, 2432] inb_S1x512x2432_S1x32x2432_0_288_0, hq (slab x 9)⟩,
    ⟨Rect.unit ![0, 256, 0] ![1, 32, 2432] inb_S1x512x2432_S1x32x2432_0_256_0, hq (slab x 8)⟩,
    ⟨Rect.unit ![0, 224, 0] ![1, 32, 2432] inb_S1x512x2432_S1x32x2432_0_224_0, hq (slab x 7)⟩,
    ⟨Rect.unit ![0, 192, 0] ![1, 32, 2432] inb_S1x512x2432_S1x32x2432_0_192_0, hq (slab x 6)⟩,
    ⟨Rect.unit ![0, 160, 0] ![1, 32, 2432] inb_S1x512x2432_S1x32x2432_0_160_0, hq (slab x 5)⟩,
    ⟨Rect.unit ![0, 128, 0] ![1, 32, 2432] inb_S1x512x2432_S1x32x2432_0_128_0, hq (slab x 4)⟩,
    ⟨Rect.unit ![0, 96, 0] ![1, 32, 2432] inb_S1x512x2432_S1x32x2432_0_96_0, hq (slab x 3)⟩,
    ⟨Rect.unit ![0, 64, 0] ![1, 32, 2432] inb_S1x512x2432_S1x32x2432_0_64_0, hq (slab x 2)⟩,
    ⟨Rect.unit ![0, 32, 0] ![1, 32, 2432] inb_S1x512x2432_S1x32x2432_0_32_0, hq (slab x 1)⟩,
    ⟨Rect.unit ![0, 0, 0] ![1, 32, 2432] inb_S1x512x2432_S1x32x2432_0_0_0, hq (slab x 0)⟩]
/-- The stores of the magnitudes. -/
abbrev aPieces (x : Vec F S1x512x2432 .bf16) : List (View.Piece (Elt F) S512x128 .f32) :=
   [⟨Rect.unit ![480, 0] ![32, 128] inb_S512x128_S32x128_480_0, am (slab x 15)⟩,
    ⟨Rect.unit ![448, 0] ![32, 128] inb_S512x128_S32x128_448_0, am (slab x 14)⟩,
    ⟨Rect.unit ![416, 0] ![32, 128] inb_S512x128_S32x128_416_0, am (slab x 13)⟩,
    ⟨Rect.unit ![384, 0] ![32, 128] inb_S512x128_S32x128_384_0, am (slab x 12)⟩,
    ⟨Rect.unit ![352, 0] ![32, 128] inb_S512x128_S32x128_352_0, am (slab x 11)⟩,
    ⟨Rect.unit ![320, 0] ![32, 128] inb_S512x128_S32x128_320_0, am (slab x 10)⟩,
    ⟨Rect.unit ![288, 0] ![32, 128] inb_S512x128_S32x128_288_0, am (slab x 9)⟩,
    ⟨Rect.unit ![256, 0] ![32, 128] inb_S512x128_S32x128_256_0, am (slab x 8)⟩,
    ⟨Rect.unit ![224, 0] ![32, 128] inb_S512x128_S32x128_224_0, am (slab x 7)⟩,
    ⟨Rect.unit ![192, 0] ![32, 128] inb_S512x128_S32x128_192_0, am (slab x 6)⟩,
    ⟨Rect.unit ![160, 0] ![32, 128] inb_S512x128_S32x128_160_0, am (slab x 5)⟩,
    ⟨Rect.unit ![128, 0] ![32, 128] inb_S512x128_S32x128_128_0, am (slab x 4)⟩,
    ⟨Rect.unit ![96, 0] ![32, 128] inb_S512x128_S32x128_96_0, am (slab x 3)⟩,
    ⟨Rect.unit ![64, 0] ![32, 128] inb_S512x128_S32x128_64_0, am (slab x 2)⟩,
    ⟨Rect.unit ![32, 0] ![32, 128] inb_S512x128_S32x128_32_0, am (slab x 1)⟩,
    ⟨Rect.unit ![0, 0] ![32, 128] inb_S512x128_S32x128_0_0, am (slab x 0)⟩]

theorem hPieces_cover (x : Vec F S1x512x2432 .bf16) : ∀ y, ∃ p ∈ hPieces x, y ∈ p.1.set :=
  View.cover_of_tiled (hPieces x) S1x32x2432.size rfl
theorem aPieces_cover (x : Vec F S1x512x2432 .bf16) : ∀ y, ∃ p ∈ aPieces x, y ∈ p.1.set :=
  View.cover_of_tiled (aPieces x) S32x128.size rfl

theorem hPieces_of (x : Vec F S1x512x2432 .bf16) : ∀ p ∈ hPieces x, ∀ z, p.2 z = HB x (p.1.emb z) := by
  simp only [hPieces, List.forall_mem_cons]
  exact ⟨HB_emb x 15 _, HB_emb x 14 _, HB_emb x 13 _, HB_emb x 12 _, HB_emb x 11 _, HB_emb x 10 _, HB_emb x 9 _, HB_emb x 8 _, HB_emb x 7 _, HB_emb x 6 _, HB_emb x 5 _, HB_emb x 4 _, HB_emb x 3 _, HB_emb x 2 _, HB_emb x 1 _, HB_emb x 0 _, fun _ h => absurd h List.not_mem_nil⟩
theorem aPieces_of (x : Vec F S1x512x2432 .bf16) : ∀ p ∈ aPieces x, ∀ z, p.2 z = AM x (p.1.emb z) := by
  simp only [aPieces, List.forall_mem_cons]
  exact ⟨AM_emb x 15 _, AM_emb x 14 _, AM_emb x 13 _, AM_emb x 12 _, AM_emb x 11 _, AM_emb x 10 _, AM_emb x 9 _, AM_emb x 8 _, AM_emb x 7 _, AM_emb x 6 _, AM_emb x 5 _, AM_emb x 4 _, AM_emb x 3 _, AM_emb x 2 _, AM_emb x 1 _, AM_emb x 0 _, fun _ h => absurd h List.not_mem_nil⟩

theorem canon_h (x : Vec F S1x512x2432 .bf16) : View.canon (hPieces x) = HB x :=
  funext fun y => View.canon_apply_of_pieces _ _ (hPieces_of x) y (hPieces_cover x y)
theorem canon_a (x : Vec F S1x512x2432 .bf16) : View.canon (aPieces x) = AM x :=
  funext fun y => View.canon_apply_of_pieces _ _ (aPieces_of x) y (aPieces_cover x y)

theorem hz2 : (![0, 0] : Fin 2 → ℕ) = fun _ => 0 := funext fun a => by fin_cases a <;> rfl
theorem hz3 : (![0, 0, 0] : Fin 3 → ℕ) = fun _ => 0 := funext fun a => by fin_cases a <;> rfl

theorem readCov_h (v : View sig .tc .vmem S1x512x2432 .fp8e4m3) (x : Vec F S1x512x2432 .bf16)
    (inb : ∀ a, (![0, 0, 0] : Fin 3 → ℕ) a + ![1, 512, 2432] a ≤ S1x512x2432.size a) :
    v.readCov (hPieces x) (Rect.unit ![0, 0, 0] ![1, 512, 2432] inb).toLoadRect = HB x := by
  refine (View.readCov_eq_canon_ld _ _ _ (hPieces_cover x)).trans ?_
  exact (congrArg (fun X => View.ld X _) (canon_h x)).trans (View.ld_unit_zero (S := S1x512x2432) hz3 _ _)
theorem readCov_a (v : View sig .tc .vmem S512x128 .f32) (x : Vec F S1x512x2432 .bf16)
    (inb : ∀ a, (![0, 0] : Fin 2 → ℕ) a + ![512, 128] a ≤ S512x128.size a) :
    v.readCov (aPieces x) (Rect.unit ![0, 0] ![512, 128] inb).toLoadRect = AM x := by
  refine (View.readCov_eq_canon_ld _ _ _ (aPieces_cover x)).trans ?_
  exact (congrArg (fun X => View.ld X _) (canon_a x)).trans (View.ld_unit_zero (S := S512x128) hz2 _ _)

/-! ## Whole loads and whole stores -/

theorem ldw_0 (X : Vec F S64x2432 .fp8e4m3) (inb : ∀ a, (![0, 0] : Fin 2 → ℕ) a + ![64, 2432] a ≤ S64x2432.size a) :
    View.ld X (Rect.unit (s := S64x2432) ![0, 0] ![64, 2432] inb) = X := View.ld_unit_zero (S := S64x2432) hz2 inb X
theorem ldw_1 (X : Vec F S64x2432 .bf16) (inb : ∀ a, (![0, 0] : Fin 2 → ℕ) a + ![64, 2432] a ≤ S64x2432.size a) :
    View.ld X (Rect.unit (s := S64x2432) ![0, 0] ![64, 2432] inb) = X := View.ld_unit_zero (S := S64x2432) hz2 inb X
theorem ldw_2 (X : Vec F S64x2432 .f32) (inb : ∀ a, (![0, 0] : Fin 2 → ℕ) a + ![64, 2432] a ≤ S64x2432.size a) :
    View.ld X (Rect.unit (s := S64x2432) ![0, 0] ![64, 2432] inb) = X := View.ld_unit_zero (S := S64x2432) hz2 inb X
theorem ldw_3 (X : Vec F S64x1 .f32) (inb : ∀ a, (![0, 0] : Fin 2 → ℕ) a + ![64, 1] a ≤ S64x1.size a) :
    View.ld X (Rect.unit (s := S64x1) ![0, 0] ![64, 1] inb) = X := View.ld_unit_zero (S := S64x1) hz2 inb X
theorem ldw_4 (X : Vec F S64x512 .f32) (inb : ∀ a, (![0, 0] : Fin 2 → ℕ) a + ![64, 512] a ≤ S64x512.size a) :
    View.ld X (Rect.unit (s := S64x512) ![0, 0] ![64, 512] inb) = X := View.ld_unit_zero (S := S64x512) hz2 inb X
theorem ldw_5 (X : Vec F S1x64x512 .bf16) (inb : ∀ a, (![0, 0, 0] : Fin 3 → ℕ) a + ![1, 64, 512] a ≤ S1x64x512.size a) :
    View.ld X (Rect.unit (s := S1x64x512) ![0, 0, 0] ![1, 64, 512] inb) = X := View.ld_unit_zero (S := S1x64x512) hz3 inb X
theorem rcw_0 (v : View sig .tc .vmem S64x2432 .bf16) (inb inb' : ∀ a, (![0, 0] : Fin 2 → ℕ) a + ![64, 2432] a ≤ S64x2432.size a)
    (w : Vec F S64x2432 .bf16) (L : List (View.Piece (Elt F) S64x2432 .bf16)) :
    v.readCov ((⟨Rect.unit ![0, 0] ![64, 2432] inb, w⟩ : View.Piece (Elt F) S64x2432 .bf16) :: L) (Rect.unit ![0, 0] ![64, 2432] inb').toLoadRect = w :=
  View.readCov_full (s := S64x2432) v inb' inb w L
theorem rcw_1 (v : View sig .tc .vmem S64x2432 .f32) (inb inb' : ∀ a, (![0, 0] : Fin 2 → ℕ) a + ![64, 2432] a ≤ S64x2432.size a)
    (w : Vec F S64x2432 .f32) (L : List (View.Piece (Elt F) S64x2432 .f32)) :
    v.readCov ((⟨Rect.unit ![0, 0] ![64, 2432] inb, w⟩ : View.Piece (Elt F) S64x2432 .f32) :: L) (Rect.unit ![0, 0] ![64, 2432] inb').toLoadRect = w :=
  View.readCov_full (s := S64x2432) v inb' inb w L
theorem rcw_2 (v : View sig .tc .vmem S64x512 .f32) (inb inb' : ∀ a, (![0, 0] : Fin 2 → ℕ) a + ![64, 512] a ≤ S64x512.size a)
    (w : Vec F S64x512 .f32) (L : List (View.Piece (Elt F) S64x512 .f32)) :
    v.readCov ((⟨Rect.unit ![0, 0] ![64, 512] inb, w⟩ : View.Piece (Elt F) S64x512 .f32) :: L) (Rect.unit ![0, 0] ![64, 512] inb').toLoadRect = w :=
  View.readCov_full (s := S64x512) v inb' inb w L

end Cert.KernelIdeal.Gen

end
-- ==== Proof.KVals.lean ====
/- What the body leaves in each buffer at one grid point, as functions of the blocks and the contents it finds. -/
module

public import proofs.«01_k».proof.Proof.KSlabs
public import proofs.«01_k».proof.Proof.KRuns
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's values -/

/-- The codes as a matrix. -/
def HQ (x1 : Vec F S1x512x2432 .bf16) : FVec F S512x2432 .fp8e4m3 := k0_pay94 (HB x1)
/-- The exponent fields' candidates. -/
def IO : IVec S256x512 32 := iota .tc S256x512 32 [0] iota_S256x512_d0_w32
/-- The tokens' scales. -/
def HS (x1 : Vec F S1x512x2432 .bf16) : FVec F S1x512 .f32 := k0_pay96 (F := F) IO (k0_pay95 (AM x1)) 0#32
/-- The prediction. -/
def PR (x1 : Vec F S1x512x2432 .bf16) (x2 : Vec F S64x2432 .fp8e4m3) (x3 x4 : Vec F S64x1 .f32) : FVec F S64x512 .f32 :=
  k0_pay97 (HQ x1) IO (k0_pay95 (AM x1)) 0#32 x2 x3 x4
theorem off0 (i : grid0.Coords) : BitVec.toNat (Scalar.indexCast (BitVec.ofNat 32 (i 0).val)) = (i 0).val := by
  have h : (i 0).val < 12 := (i 0).isLt
  show (BitVec.ofNat 32 (i 0).val).toNat = _
  rw [BitVec.toNat_ofNat]; omega
theorem lw_inb (i : grid0.Coords) (a : Fin 1) :
    (![BitVec.toNat (Scalar.indexCast (BitVec.ofNat 32 (i 0).val))] : Fin 1 → ℕ) a + ![1] a ≤ S12.size a := by
  have h : (i 0).val < 12 := (i 0).isLt
  match a with
  | ⟨0, _⟩ =>
    show BitVec.toNat (Scalar.indexCast (BitVec.ofNat 32 (i 0).val)) + 1 ≤ 12
    rw [off0]; omega
/-- The sample's loss weight. -/
def LW (i : grid0.Coords) (x0 : Vec F S12 .f32) : Elt F .f32 :=
  View.ld x0 (Rect.unit (s := S12) ![BitVec.toNat (Scalar.indexCast (BitVec.ofNat 32 (i 0).val))] ![1] (lw_inb i))
    (Shape.Idx.first (s := S1) (by decide))
/-- The gradient. -/
def GR (i : grid0.Coords) (x0 : Vec F S12 .f32) (x1 : Vec F S1x512x2432 .bf16) (x2 : Vec F S64x2432 .fp8e4m3) (x3 x4 : Vec F S64x1 .f32) (x5 x6 : Vec F S1x64x512 .bf16) : FVec F S64x512 .f32 := k0_pay101 (PR x1 x2 x3 x4) x6 x5 (LW i x0)
/-- The exponent field of each token's gradient. -/
def EX (i : grid0.Coords) (x0 : Vec F S12 .f32) (x1 : Vec F S1x512x2432 .bf16) (x2 : Vec F S64x2432 .fp8e4m3) (x3 x4 : Vec F S64x1 .f32) (x5 x6 : Vec F S1x64x512 .bf16) : IVec S1x512 32 := k0_pay105 (PR x1 x2 x3 x4) x6 x5 (LW i x0)
/-- The gradients' scales. -/
def DS (i : grid0.Coords) (x0 : Vec F S12 .f32) (x1 : Vec F S1x512x2432 .bf16) (x2 : Vec F S64x2432 .fp8e4m3) (x3 x4 : Vec F S64x1 .f32) (x5 x6 : Vec F S1x64x512 .bf16) : FVec F S1x512 .f32 := k0_pay108 (F := F) (EX i x0 x1 x2 x3 x4 x5 x6) k0_pay106
/-- The gradients' codes, as the block stored. -/
def DV (i : grid0.Coords) (x0 : Vec F S12 .f32) (x1 : Vec F S1x512x2432 .bf16) (x2 : Vec F S64x2432 .fp8e4m3) (x3 x4 : Vec F S64x1 .f32) (x5 x6 : Vec F S1x64x512 .bf16) : FVec F S1x64x512 .fp8e5m2 := k0_pay110 (GR i x0 x1 x2 x3 x4 x5 x6) (EX i x0 x1 x2 x3 x4 x5 x6) k0_pay106
/-- The gradients' codes times their scales. -/
def GD (i : grid0.Coords) (x0 : Vec F S12 .f32) (x1 : Vec F S1x512x2432 .bf16) (x2 : Vec F S64x2432 .fp8e4m3) (x3 x4 : Vec F S64x1 .f32) (x5 x6 : Vec F S1x64x512 .bf16) : FVec F S64x512 .bf16 := k0_pay111 (GR i x0 x1 x2 x3 x4 x5 x6) (EX i x0 x1 x2 x3 x4 x5 x6) k0_pay106
/-- The tokens' gradient block, from the scaled weights `W`. -/
def DHB (i : grid0.Coords) (x0 : Vec F S12 .f32) (x1 : Vec F S1x512x2432 .bf16) (x2 : Vec F S64x2432 .fp8e4m3) (x3 x4 : Vec F S64x1 .f32) (x5 x6 : Vec F S1x64x512 .bf16) (W : Vec F S64x2432 .bf16) : FVec F S1x512x2432 .bf16 :=
  k0_pay1 (k0_pay112 (GR i x0 x1 x2 x3 x4 x5 x6) (EX i x0 x1 x2 x3 x4 x5 x6) k0_pay106 W)
/-- The weights' gradient with this point's part added to `A`. -/
def DWB (i : grid0.Coords) (x0 : Vec F S12 .f32) (x1 : Vec F S1x512x2432 .bf16) (x2 : Vec F S64x2432 .fp8e4m3) (x3 x4 : Vec F S64x1 .f32) (x5 x6 : Vec F S1x64x512 .bf16) (A : Vec F S64x2432 .f32) : FVec F S64x2432 .f32 :=
  k0_pay2 (HQ x1) (HS x1) (GD i x0 x1 x2 x3 x4 x5 x6) A
/-- The prediction as the block stored. -/
def PB (x1 : Vec F S1x512x2432 .bf16) (x2 : Vec F S64x2432 .fp8e4m3) (x3 x4 : Vec F S64x1 .f32) : FVec F S1x64x512 .f32 :=
  k0_pay98 (HQ x1) IO (k0_pay95 (AM x1)) 0#32 x2 x3 x4
/-- The squared differences: a sample's first block, -/
def SQ0 (x1 : Vec F S1x512x2432 .bf16) (x2 : Vec F S64x2432 .fp8e4m3) (x3 x4 : Vec F S64x1 .f32) (x5 x6 : Vec F S1x64x512 .bf16) : FVec F S64x512 .f32 :=
  k0_pay102 (PR x1 x2 x3 x4) x6 x5
/-- and a later block added to those before. -/
def SQ1 (x1 : Vec F S1x512x2432 .bf16) (x2 : Vec F S64x2432 .fp8e4m3) (x3 x4 : Vec F S64x1 .f32) (x5 x6 : Vec F S1x64x512 .bf16) (S : Vec F S64x512 .f32) : FVec F S64x512 .f32 :=
  k0_pay103 (PR x1 x2 x3 x4) x6 x5 S
/-- The scaled weights. -/
def WB (x2 : Vec F S64x2432 .fp8e4m3) (x3 : Vec F S64x1 .f32) : FVec F S64x2432 .bf16 := k0_pay3 x3 x2
/-- A sample's loss, from its squared differences. -/
def LO (i : grid0.Coords) (x0 : Vec F S12 .f32) (S : Vec F S64x512 .f32) : F .f32 := k0_pay104 (LW i x0) S

/-- Row `i 0`, columns `512 (i 1) …` of a `[12, 4096]` buffer replaced by `v`. -/
def ROW (i : grid0.Coords) (y : Vec F S12x4096 .f32) (v : Vec F S1x512 .f32) : Vec F S12x4096 .f32 := fun z =>
  if (z 0).val = (i 0).val ∧ (z 1).val / 512 = (i 1).val then v fun
    | ⟨0, _⟩ => ⟨0, Nat.one_pos⟩
    | ⟨1, _⟩ => ⟨(z 1).val % 512, Nat.mod_lt _ (by decide)⟩
  else y z
/-- Element `i 0` of a `[12]` buffer replaced by `v`. -/
def ELT (i : grid0.Coords) (y : Vec F S12 .f32) (v : F .f32) : Vec F S12 .f32 := fun z =>
  if (z 0).val = (i 0).val then v else y z

/-! ## The stores at computed places -/

theorem off1 (i : grid0.Coords) :
    BitVec.toNat (Scalar.indexCast (Scalar.muli (BitVec.ofNat 32 (i 1).val) 512#32)) = 512 * (i 1).val := by
  have h : (i 1).val < 8 := (i 1).isLt
  show (BitVec.ofNat 32 (i 1).val * 512#32).toNat = _
  rw [BitVec.toNat_mul, BitVec.toNat_ofNat]
  show (i 1).val % 2 ^ 32 * 512 % 2 ^ 32 = _
  omega

theorem LW_eq (i : grid0.Coords) (x0 : Vec F S12 .f32) : LW i x0 = x0 fun | ⟨0, _⟩ => i 0 := by
  refine congrArg x0 (funext fun a => Fin.ext ?_)
  match a with
  | ⟨0, _⟩ =>
    have h : ((Shape.Idx.first (s := S1) (by decide)) 0).val < 1 := (Shape.Idx.first (s := S1) (by decide) 0).isLt
    show BitVec.toNat (Scalar.indexCast (BitVec.ofNat 32 (i 0).val)) + 1 * ((Shape.Idx.first (s := S1) (by decide)) 0).val = (i 0).val
    rw [off0]; omega

theorem read_row (i : grid0.Coords) (v : View sig .tc .vmem S12x4096 .f32) (f : v.ty.Contents (Elt F)) {n0 n1 : ℕ}
    (h0 : n0 = (i 0).val) (h1 : n1 = 512 * (i 1).val)
    (inb : ∀ a, (![n0, n1] : Fin 2 → ℕ) a + ![1, 512] a ≤ S12x4096.size a) (w : Vec F S1x512 .f32) :
    v.read (Elt F) (v.writes (Elt F) f [(⟨Rect.unit ![n0, n1] ![1, 512] inb, w⟩ : View.Piece (Elt F) S12x4096 .f32)])
      = ROW i (v.read (Elt F) f) w := by
  subst h0 h1
  funext z
  unfold ROW
  by_cases h : (z 0).val = (i 0).val ∧ (z 1).val / 512 = (i 1).val
  · rw [if_pos h]
    exact View.read_writes_cons_unit_of_mem v f inb w [] z _ rfl fun a => match a with
      | ⟨0, _⟩ => by show (z 0).val = (i 0).val + 0; omega
      | ⟨1, _⟩ => by show (z 1).val = 512 * (i 1).val + (z 1).val % 512; omega
  · rw [if_neg h]
    by_cases h' : (z 0).val = (i 0).val
    · refine View.read_writes_cons_unit_of_not_mem v f inb w [] z rfl 1 ?_
      show (z 1).val < 512 * (i 1).val ∨ 512 * (i 1).val + 512 ≤ (z 1).val
      omega
    · refine View.read_writes_cons_unit_of_not_mem v f inb w [] z rfl 0 ?_
      show (z 0).val < (i 0).val ∨ (i 0).val + 1 ≤ (z 0).val
      omega

theorem read_elt (i : grid0.Coords) (v : View sig .tc .smem S12 .f32) (f : v.ty.Contents (Elt F)) {n0 : ℕ}
    (h0 : n0 = (i 0).val) (inb : ∀ a, (![n0] : Fin 1 → ℕ) a + ![1] a ≤ S12.size a) (w : F .f32) :
    v.read (Elt F) (v.writes (Elt F) f [(⟨Rect.unit ![n0] ![1] inb, fun _ => w⟩ : View.Piece (Elt F) S12 .f32)])
      = ELT i (v.read (Elt F) f) w := by
  subst h0
  funext z
  unfold ELT
  by_cases h : (z 0).val = (i 0).val
  · rw [if_pos h]
    exact View.read_writes_cons_unit_of_mem v f inb (fun _ => w) [] z (fun | ⟨0, _⟩ => ⟨0, Nat.one_pos⟩) rfl fun a => match a with
      | ⟨0, _⟩ => by show (z 0).val = (i 0).val + 0; omega
  · rw [if_neg h]
    refine View.read_writes_cons_unit_of_not_mem v f inb (fun _ => w) [] z rfl 0 ?_
    show (z 0).val < (i 0).val ∨ (i 0).val + 1 ≤ (z 0).val
    omega

end Cert.KernelIdeal.Gen

end
-- ==== Proof.KRunA.lean ====
/- What the kernel's body leaves in each buffer at the first point of the grid, found by running it. -/
module

public import proofs.«01_k».proof.Proof.KRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first point: from every buffer at named contents the body runs, and each buffer it stores into ends with the
    run's pieces (last first) written over what it held. -/
noncomputable def kRun_A (c : Dev nD) (i : grid0.Coords) (arg2 : Memref sig .tc .smem S12 .f32) (harg2 : arg2.IsWhole) (arg3 : Memref sig .tc .vmem S1x512x2432 .bf16) (harg3 : arg3.IsWhole) (arg4 : Memref sig .tc .vmem S64x2432 .fp8e4m3) (harg4 : arg4.IsWhole) (arg5 : Memref sig .tc .vmem S64x1 .f32) (harg5 : arg5.IsWhole) (arg6 : Memref sig .tc .vmem S64x1 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S12 .f32) (harg9 : arg9.IsWhole) (arg10 : Memref sig .tc .vmem S1x64x512 .f32) (harg10 : arg10.IsWhole) (arg11 : Memref sig .tc .vmem S1x512x2432 .bf16) (harg11 : arg11.IsWhole) (arg12 : Memref sig .tc .vmem S64x2432 .f32) (harg12 : arg12.IsWhole) (arg13 : Memref sig .tc .vmem S1x512x2432 .fp8e4m3) (harg13 : arg13.IsWhole) (arg14 : Memref sig .tc .vmem S12x4096 .f32) (harg14 : arg14.IsWhole) (arg15 : Memref sig .tc .vmem S1x64x512 .fp8e5m2) (harg15 : arg15.IsWhole) (arg16 : Memref sig .tc .vmem S12x4096 .f32) (harg16 : arg16.IsWhole) (arg17 : Memref sig .tc .vmem S64x2432 .bf16) (harg17 : arg17.IsWhole) (arg18 : Memref sig .tc .vmem S64x512 .f32) (harg18 : arg18.IsWhole) (arg19 : Memref sig .tc .vmem S512x128 .f32) (harg19 : arg19.IsWhole)
    (hc0 : cond0_0 i) (hc1 : cond0_1 i) (hc2 : ¬cond0_2 i) (hc3 : ¬cond0_3 i)
    (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32) :
    Σ' (L8 : List (View.Piece (Elt F) S1x64x512 .f32)), Σ' (L9 : List (View.Piece (Elt F) S1x512x2432 .bf16)), Σ' (L10 : List (View.Piece (Elt F) S64x2432 .f32)), Σ' (L11 : List (View.Piece (Elt F) S1x512x2432 .fp8e4m3)), Σ' (L12 : List (View.Piece (Elt F) S12x4096 .f32)), Σ' (L13 : List (View.Piece (Elt F) S1x64x512 .fp8e5m2)), Σ' (L14 : List (View.Piece (Elt F) S12x4096 .f32)), Σ' (L15 : List (View.Piece (Elt F) S64x2432 .bf16)), Σ' (L16 : List (View.Piece (Elt F) S64x512 .f32)), { L17 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9) ∗ (arg12.view.loc (c : Thread nD τ) ↦[arg12.view.set]{fullShare} arg12.view.writes (Elt F) (harg12.unread y10) L10) ∗ (arg13.view.loc (c : Thread nD τ) ↦[arg13.view.set]{fullShare} arg13.view.writes (Elt F) (harg13.unread y11) L11) ∗ (arg14.view.loc (c : Thread nD τ) ↦[arg14.view.set]{fullShare} arg14.view.writes (Elt F) (harg14.unread y12) L12) ∗ (arg15.view.loc (c : Thread nD τ) ↦[arg15.view.set]{fullShare} arg15.view.writes (Elt F) (harg15.unread y13) L13) ∗ (arg16.view.loc (c : Thread nD τ) ↦[arg16.view.set]{fullShare} arg16.view.writes (Elt F) (harg16.unread y14) L14) ∗ (arg17.view.loc (c : Thread nD τ) ↦[arg17.view.set]{fullShare} arg17.view.writes (Elt F) (harg17.unread y15) L15) ∗ (arg18.view.loc (c : Thread nD τ) ↦[arg18.view.set]{fullShare} arg18.view.writes (Elt F) (harg18.unread y16) L16) ∗ (arg19.view.loc (c : Thread nD τ) ↦[arg19.view.set]{fullShare} arg19.view.writes (Elt F) (harg19.unread y17) L17)) -∗ K ⟨⟩))
          ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, fun E K => ?run⟩
  case run =>
    simp only [cc0_final_linear_fwd_bwd_eq_skeleton]; unfold cc0_final_linear_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Gen

end
-- ==== Proof.KBodyA.lean ====
/- What one point leaves in each buffer, in the case of `kRun_A`. -/
module

public import proofs.«01_k».proof.Proof.KVals
public import proofs.«01_k».proof.Proof.KRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000
set_option maxRecDepth 65536

variable (c : Dev nD) (i : grid0.Coords)
  (arg2 : Memref sig .tc .smem S12 .f32) (harg2 : arg2.IsWhole)
  (arg3 : Memref sig .tc .vmem S1x512x2432 .bf16) (harg3 : arg3.IsWhole)
  (arg4 : Memref sig .tc .vmem S64x2432 .fp8e4m3) (harg4 : arg4.IsWhole)
  (arg5 : Memref sig .tc .vmem S64x1 .f32) (harg5 : arg5.IsWhole)
  (arg6 : Memref sig .tc .vmem S64x1 .f32) (harg6 : arg6.IsWhole)
  (arg7 : Memref sig .tc .vmem S1x64x512 .bf16) (harg7 : arg7.IsWhole)
  (arg8 : Memref sig .tc .vmem S1x64x512 .bf16) (harg8 : arg8.IsWhole)
  (arg9 : Memref sig .tc .smem S12 .f32) (harg9 : arg9.IsWhole)
  (arg10 : Memref sig .tc .vmem S1x64x512 .f32) (harg10 : arg10.IsWhole)
  (arg11 : Memref sig .tc .vmem S1x512x2432 .bf16) (harg11 : arg11.IsWhole)
  (arg12 : Memref sig .tc .vmem S64x2432 .f32) (harg12 : arg12.IsWhole)
  (arg13 : Memref sig .tc .vmem S1x512x2432 .fp8e4m3) (harg13 : arg13.IsWhole)
  (arg14 : Memref sig .tc .vmem S12x4096 .f32) (harg14 : arg14.IsWhole)
  (arg15 : Memref sig .tc .vmem S1x64x512 .fp8e5m2) (harg15 : arg15.IsWhole)
  (arg16 : Memref sig .tc .vmem S12x4096 .f32) (harg16 : arg16.IsWhole)
  (arg17 : Memref sig .tc .vmem S64x2432 .bf16) (harg17 : arg17.IsWhole)
  (arg18 : Memref sig .tc .vmem S64x512 .f32) (harg18 : arg18.IsWhole)
  (arg19 : Memref sig .tc .vmem S512x128 .f32) (harg19 : arg19.IsWhole)
variable (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32)
variable (hc0 : cond0_0 i) (hc1 : cond0_1 i) (hc2 : ¬cond0_2 i) (hc3 : ¬cond0_3 i)

theorem kA_8 : arg10.view.read (Elt F) (arg10.view.writes (Elt F) (harg10.unread y8) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).1)) = PB x1 x2 x3 x4 := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kA_9 : arg11.view.read (Elt F) (arg11.view.writes (Elt F) (harg11.unread y9) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.1)) = DHB i x0 x1 x2 x3 x4 x5 x6 (WB x2 x3) := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x512x2432) _ _ _ _ _

theorem kA_10 : arg12.view.read (Elt F) (arg12.view.writes (Elt F) (harg12.unread y10) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.1)) = DWB i x0 x1 x2 x3 x4 x5 x6 k0_pay4 := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x2432) _ _ _ _ _

theorem kA_11 : arg13.view.read (Elt F) (arg13.view.writes (Elt F) (harg13.unread y11) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.1)) = HB x1 := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (hPieces_cover x1)).trans (canon_h x1)

theorem kA_12 : arg14.view.read (Elt F) (arg14.view.writes (Elt F) (harg14.unread y12) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.1)) = ROW i y12 (HS x1) := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg14.read_unread y12))

theorem kA_13 : arg15.view.read (Elt F) (arg15.view.writes (Elt F) (harg15.unread y13) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.1)) = DV i x0 x1 x2 x3 x4 x5 x6 := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kA_14 : arg16.view.read (Elt F) (arg16.view.writes (Elt F) (harg16.unread y14) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.1)) = ROW i y14 (DS i x0 x1 x2 x3 x4 x5 x6) := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg16.read_unread y14))

theorem kA_15 : arg17.view.read (Elt F) (arg17.view.writes (Elt F) (harg17.unread y15) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.1)) = WB x2 x3 := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x2432) _ _ _ _ _

theorem kA_16 : arg18.view.read (Elt F) (arg18.view.writes (Elt F) (harg18.unread y16) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.1)) = SQ0 x1 x2 x3 x4 x5 x6 := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x512) _ _ _ _ _

theorem kA_17 : arg19.view.read (Elt F) (arg19.view.writes (Elt F) (harg19.unread y17) ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.2.1)) = AM x1 := by
  unfold kRun_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (aPieces_cover x1)).trans (canon_a x1)

include hc0 hc1 hc2 hc3 in
/-- The whole body in this case: every buffer owned at what the body leaves there. -/
theorem kBody_A (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (y7) ∗ owns (c : Thread nD τ) arg10 fullShare (PB x1 x2 x3 x4) ∗ owns (c : Thread nD τ) arg11 fullShare (DHB i x0 x1 x2 x3 x4 x5 x6 (WB x2 x3)) ∗ owns (c : Thread nD τ) arg12 fullShare (DWB i x0 x1 x2 x3 x4 x5 x6 k0_pay4) ∗ owns (c : Thread nD τ) arg13 fullShare (HB x1) ∗ owns (c : Thread nD τ) arg14 fullShare (ROW i y12 (HS x1)) ∗ owns (c : Thread nD τ) arg15 fullShare (DV i x0 x1 x2 x3 x4 x5 x6) ∗ owns (c : Thread nD τ) arg16 fullShare (ROW i y14 (DS i x0 x1 x2 x3 x4 x5 x6)) ∗ owns (c : Thread nD τ) arg17 fullShare (WB x2 x3) ∗ owns (c : Thread nD τ) arg18 fullShare (SQ0 x1 x2 x3 x4 x5 x6) ∗ owns (c : Thread nD τ) arg19 fullShare (AM x1)) -∗ K ⟨⟩))
      ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, H15, H16, H17, Hk⟩
  iapply ((kRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]; · (iexact H0)
  isplitl [H1]; · (iexact H1)
  isplitl [H2]; · (iexact H2)
  isplitl [H3]; · (iexact H3)
  isplitl [H4]; · (iexact H4)
  isplitl [H5]; · (iexact H5)
  isplitl [H6]; · (iexact H6)
  isplitl [H7]; · (iexact H7)
  isplitl [H8]; · (unfold owns; iexists _; isplitr; swap; (· iexact H8); ipureintro; exact kA_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H9]; · (unfold owns; iexists _; isplitr; swap; (· iexact H9); ipureintro; exact kA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H10]; · (unfold owns; iexists _; isplitr; swap; (· iexact H10); ipureintro; exact kA_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H11]; · (unfold owns; iexists _; isplitr; swap; (· iexact H11); ipureintro; exact kA_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H12]; · (unfold owns; iexists _; isplitr; swap; (· iexact H12); ipureintro; exact kA_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H13]; · (unfold owns; iexists _; isplitr; swap; (· iexact H13); ipureintro; exact kA_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H14]; · (unfold owns; iexists _; isplitr; swap; (· iexact H14); ipureintro; exact kA_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H15]; · (unfold owns; iexists _; isplitr; swap; (· iexact H15); ipureintro; exact kA_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H16]; · (unfold owns; iexists _; isplitr; swap; (· iexact H16); ipureintro; exact kA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  unfold owns; iexists _; isplitr; swap; (· iexact H17); ipureintro; exact kA_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3

end Cert.KernelIdeal.Gen

end
-- ==== Proof.KRunB.lean ====
/- What the kernel's body leaves in each buffer at a point inside a sample of the grid, found by running it. -/
module

public import proofs.«01_k».proof.Proof.KRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a point inside a sample: from every buffer at named contents the body runs, and each buffer it stores into ends with the
    run's pieces (last first) written over what it held. -/
noncomputable def kRun_B (c : Dev nD) (i : grid0.Coords) (arg2 : Memref sig .tc .smem S12 .f32) (harg2 : arg2.IsWhole) (arg3 : Memref sig .tc .vmem S1x512x2432 .bf16) (harg3 : arg3.IsWhole) (arg4 : Memref sig .tc .vmem S64x2432 .fp8e4m3) (harg4 : arg4.IsWhole) (arg5 : Memref sig .tc .vmem S64x1 .f32) (harg5 : arg5.IsWhole) (arg6 : Memref sig .tc .vmem S64x1 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S12 .f32) (harg9 : arg9.IsWhole) (arg10 : Memref sig .tc .vmem S1x64x512 .f32) (harg10 : arg10.IsWhole) (arg11 : Memref sig .tc .vmem S1x512x2432 .bf16) (harg11 : arg11.IsWhole) (arg12 : Memref sig .tc .vmem S64x2432 .f32) (harg12 : arg12.IsWhole) (arg13 : Memref sig .tc .vmem S1x512x2432 .fp8e4m3) (harg13 : arg13.IsWhole) (arg14 : Memref sig .tc .vmem S12x4096 .f32) (harg14 : arg14.IsWhole) (arg15 : Memref sig .tc .vmem S1x64x512 .fp8e5m2) (harg15 : arg15.IsWhole) (arg16 : Memref sig .tc .vmem S12x4096 .f32) (harg16 : arg16.IsWhole) (arg17 : Memref sig .tc .vmem S64x2432 .bf16) (harg17 : arg17.IsWhole) (arg18 : Memref sig .tc .vmem S64x512 .f32) (harg18 : arg18.IsWhole) (arg19 : Memref sig .tc .vmem S512x128 .f32) (harg19 : arg19.IsWhole)
    (hc0 : ¬cond0_0 i) (hc1 : ¬cond0_1 i) (hc2 : cond0_2 i) (hc3 : ¬cond0_3 i)
    (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32) :
    Σ' (L8 : List (View.Piece (Elt F) S1x64x512 .f32)), Σ' (L9 : List (View.Piece (Elt F) S1x512x2432 .bf16)), Σ' (L10 : List (View.Piece (Elt F) S64x2432 .f32)), Σ' (L11 : List (View.Piece (Elt F) S1x512x2432 .fp8e4m3)), Σ' (L12 : List (View.Piece (Elt F) S12x4096 .f32)), Σ' (L13 : List (View.Piece (Elt F) S1x64x512 .fp8e5m2)), Σ' (L14 : List (View.Piece (Elt F) S12x4096 .f32)), Σ' (L16 : List (View.Piece (Elt F) S64x512 .f32)), { L17 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9) ∗ (arg12.view.loc (c : Thread nD τ) ↦[arg12.view.set]{fullShare} arg12.view.writes (Elt F) (harg12.unread y10) L10) ∗ (arg13.view.loc (c : Thread nD τ) ↦[arg13.view.set]{fullShare} arg13.view.writes (Elt F) (harg13.unread y11) L11) ∗ (arg14.view.loc (c : Thread nD τ) ↦[arg14.view.set]{fullShare} arg14.view.writes (Elt F) (harg14.unread y12) L12) ∗ (arg15.view.loc (c : Thread nD τ) ↦[arg15.view.set]{fullShare} arg15.view.writes (Elt F) (harg15.unread y13) L13) ∗ (arg16.view.loc (c : Thread nD τ) ↦[arg16.view.set]{fullShare} arg16.view.writes (Elt F) (harg16.unread y14) L14) ∗ owns (c : Thread nD τ) arg17 fullShare y15 ∗ (arg18.view.loc (c : Thread nD τ) ↦[arg18.view.set]{fullShare} arg18.view.writes (Elt F) (harg18.unread y16) L16) ∗ (arg19.view.loc (c : Thread nD τ) ↦[arg19.view.set]{fullShare} arg19.view.writes (Elt F) (harg19.unread y17) L17)) -∗ K ⟨⟩))
          ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, fun E K => ?run⟩
  case run =>
    simp only [cc0_final_linear_fwd_bwd_eq_skeleton]; unfold cc0_final_linear_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists _; isplitr; · ipureintro; exact harg17.read_unread _
      iexact H15
    isplitl [H16]; · iexact H16
    iexact H17

end Cert.KernelIdeal.Gen

end
-- ==== Proof.KBodyB.lean ====
/- What one point leaves in each buffer, in the case of `kRun_B`. -/
module

public import proofs.«01_k».proof.Proof.KVals
public import proofs.«01_k».proof.Proof.KRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000
set_option maxRecDepth 65536

variable (c : Dev nD) (i : grid0.Coords)
  (arg2 : Memref sig .tc .smem S12 .f32) (harg2 : arg2.IsWhole)
  (arg3 : Memref sig .tc .vmem S1x512x2432 .bf16) (harg3 : arg3.IsWhole)
  (arg4 : Memref sig .tc .vmem S64x2432 .fp8e4m3) (harg4 : arg4.IsWhole)
  (arg5 : Memref sig .tc .vmem S64x1 .f32) (harg5 : arg5.IsWhole)
  (arg6 : Memref sig .tc .vmem S64x1 .f32) (harg6 : arg6.IsWhole)
  (arg7 : Memref sig .tc .vmem S1x64x512 .bf16) (harg7 : arg7.IsWhole)
  (arg8 : Memref sig .tc .vmem S1x64x512 .bf16) (harg8 : arg8.IsWhole)
  (arg9 : Memref sig .tc .smem S12 .f32) (harg9 : arg9.IsWhole)
  (arg10 : Memref sig .tc .vmem S1x64x512 .f32) (harg10 : arg10.IsWhole)
  (arg11 : Memref sig .tc .vmem S1x512x2432 .bf16) (harg11 : arg11.IsWhole)
  (arg12 : Memref sig .tc .vmem S64x2432 .f32) (harg12 : arg12.IsWhole)
  (arg13 : Memref sig .tc .vmem S1x512x2432 .fp8e4m3) (harg13 : arg13.IsWhole)
  (arg14 : Memref sig .tc .vmem S12x4096 .f32) (harg14 : arg14.IsWhole)
  (arg15 : Memref sig .tc .vmem S1x64x512 .fp8e5m2) (harg15 : arg15.IsWhole)
  (arg16 : Memref sig .tc .vmem S12x4096 .f32) (harg16 : arg16.IsWhole)
  (arg17 : Memref sig .tc .vmem S64x2432 .bf16) (harg17 : arg17.IsWhole)
  (arg18 : Memref sig .tc .vmem S64x512 .f32) (harg18 : arg18.IsWhole)
  (arg19 : Memref sig .tc .vmem S512x128 .f32) (harg19 : arg19.IsWhole)
variable (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32)
variable (hc0 : ¬cond0_0 i) (hc1 : ¬cond0_1 i) (hc2 : cond0_2 i) (hc3 : ¬cond0_3 i)

theorem kB_8 : arg10.view.read (Elt F) (arg10.view.writes (Elt F) (harg10.unread y8) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).1)) = PB x1 x2 x3 x4 := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kB_9 : arg11.view.read (Elt F) (arg11.view.writes (Elt F) (harg11.unread y9) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.1)) = DHB i x0 x1 x2 x3 x4 x5 x6 y15 := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x512x2432) _ _ _ _ _

theorem kB_10 : arg12.view.read (Elt F) (arg12.view.writes (Elt F) (harg12.unread y10) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.1)) = DWB i x0 x1 x2 x3 x4 x5 x6 y10 := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x2432) _ _ _ _ _

theorem kB_11 : arg13.view.read (Elt F) (arg13.view.writes (Elt F) (harg13.unread y11) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.1)) = HB x1 := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (hPieces_cover x1)).trans (canon_h x1)

theorem kB_12 : arg14.view.read (Elt F) (arg14.view.writes (Elt F) (harg14.unread y12) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.1)) = ROW i y12 (HS x1) := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg14.read_unread y12))

theorem kB_13 : arg15.view.read (Elt F) (arg15.view.writes (Elt F) (harg15.unread y13) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.1)) = DV i x0 x1 x2 x3 x4 x5 x6 := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kB_14 : arg16.view.read (Elt F) (arg16.view.writes (Elt F) (harg16.unread y14) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.1)) = ROW i y14 (DS i x0 x1 x2 x3 x4 x5 x6) := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg16.read_unread y14))

theorem kB_16 : arg18.view.read (Elt F) (arg18.view.writes (Elt F) (harg18.unread y16) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.1)) = SQ1 x1 x2 x3 x4 x5 x6 y16 := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x512) _ _ _ _ _

theorem kB_17 : arg19.view.read (Elt F) (arg19.view.writes (Elt F) (harg19.unread y17) ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.1)) = AM x1 := by
  unfold kRun_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (aPieces_cover x1)).trans (canon_a x1)

include hc0 hc1 hc2 hc3 in
/-- The whole body in this case: every buffer owned at what the body leaves there. -/
theorem kBody_B (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (y7) ∗ owns (c : Thread nD τ) arg10 fullShare (PB x1 x2 x3 x4) ∗ owns (c : Thread nD τ) arg11 fullShare (DHB i x0 x1 x2 x3 x4 x5 x6 y15) ∗ owns (c : Thread nD τ) arg12 fullShare (DWB i x0 x1 x2 x3 x4 x5 x6 y10) ∗ owns (c : Thread nD τ) arg13 fullShare (HB x1) ∗ owns (c : Thread nD τ) arg14 fullShare (ROW i y12 (HS x1)) ∗ owns (c : Thread nD τ) arg15 fullShare (DV i x0 x1 x2 x3 x4 x5 x6) ∗ owns (c : Thread nD τ) arg16 fullShare (ROW i y14 (DS i x0 x1 x2 x3 x4 x5 x6)) ∗ owns (c : Thread nD τ) arg17 fullShare (y15) ∗ owns (c : Thread nD τ) arg18 fullShare (SQ1 x1 x2 x3 x4 x5 x6 y16) ∗ owns (c : Thread nD τ) arg19 fullShare (AM x1)) -∗ K ⟨⟩))
      ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, H15, H16, H17, Hk⟩
  iapply ((kRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]; · (iexact H0)
  isplitl [H1]; · (iexact H1)
  isplitl [H2]; · (iexact H2)
  isplitl [H3]; · (iexact H3)
  isplitl [H4]; · (iexact H4)
  isplitl [H5]; · (iexact H5)
  isplitl [H6]; · (iexact H6)
  isplitl [H7]; · (iexact H7)
  isplitl [H8]; · (unfold owns; iexists _; isplitr; swap; (· iexact H8); ipureintro; exact kB_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H9]; · (unfold owns; iexists _; isplitr; swap; (· iexact H9); ipureintro; exact kB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H10]; · (unfold owns; iexists _; isplitr; swap; (· iexact H10); ipureintro; exact kB_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H11]; · (unfold owns; iexists _; isplitr; swap; (· iexact H11); ipureintro; exact kB_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H12]; · (unfold owns; iexists _; isplitr; swap; (· iexact H12); ipureintro; exact kB_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H13]; · (unfold owns; iexists _; isplitr; swap; (· iexact H13); ipureintro; exact kB_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H14]; · (unfold owns; iexists _; isplitr; swap; (· iexact H14); ipureintro; exact kB_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H15]; · (iexact H15)
  isplitl [H16]; · (unfold owns; iexists _; isplitr; swap; (· iexact H16); ipureintro; exact kB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  unfold owns; iexists _; isplitr; swap; (· iexact H17); ipureintro; exact kB_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3

end Cert.KernelIdeal.Gen

end
-- ==== Proof.KRunC.lean ====
/- What the kernel's body leaves in each buffer at a sample's last point of the grid, found by running it. -/
module

public import proofs.«01_k».proof.Proof.KRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a sample's last point: from every buffer at named contents the body runs, and each buffer it stores into ends with the
    run's pieces (last first) written over what it held. -/
noncomputable def kRun_C (c : Dev nD) (i : grid0.Coords) (arg2 : Memref sig .tc .smem S12 .f32) (harg2 : arg2.IsWhole) (arg3 : Memref sig .tc .vmem S1x512x2432 .bf16) (harg3 : arg3.IsWhole) (arg4 : Memref sig .tc .vmem S64x2432 .fp8e4m3) (harg4 : arg4.IsWhole) (arg5 : Memref sig .tc .vmem S64x1 .f32) (harg5 : arg5.IsWhole) (arg6 : Memref sig .tc .vmem S64x1 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S12 .f32) (harg9 : arg9.IsWhole) (arg10 : Memref sig .tc .vmem S1x64x512 .f32) (harg10 : arg10.IsWhole) (arg11 : Memref sig .tc .vmem S1x512x2432 .bf16) (harg11 : arg11.IsWhole) (arg12 : Memref sig .tc .vmem S64x2432 .f32) (harg12 : arg12.IsWhole) (arg13 : Memref sig .tc .vmem S1x512x2432 .fp8e4m3) (harg13 : arg13.IsWhole) (arg14 : Memref sig .tc .vmem S12x4096 .f32) (harg14 : arg14.IsWhole) (arg15 : Memref sig .tc .vmem S1x64x512 .fp8e5m2) (harg15 : arg15.IsWhole) (arg16 : Memref sig .tc .vmem S12x4096 .f32) (harg16 : arg16.IsWhole) (arg17 : Memref sig .tc .vmem S64x2432 .bf16) (harg17 : arg17.IsWhole) (arg18 : Memref sig .tc .vmem S64x512 .f32) (harg18 : arg18.IsWhole) (arg19 : Memref sig .tc .vmem S512x128 .f32) (harg19 : arg19.IsWhole)
    (hc0 : ¬cond0_0 i) (hc1 : ¬cond0_1 i) (hc2 : cond0_2 i) (hc3 : cond0_3 i)
    (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32) :
    Σ' (L7 : List (View.Piece (Elt F) S12 .f32)), Σ' (L8 : List (View.Piece (Elt F) S1x64x512 .f32)), Σ' (L9 : List (View.Piece (Elt F) S1x512x2432 .bf16)), Σ' (L10 : List (View.Piece (Elt F) S64x2432 .f32)), Σ' (L11 : List (View.Piece (Elt F) S1x512x2432 .fp8e4m3)), Σ' (L12 : List (View.Piece (Elt F) S12x4096 .f32)), Σ' (L13 : List (View.Piece (Elt F) S1x64x512 .fp8e5m2)), Σ' (L14 : List (View.Piece (Elt F) S12x4096 .f32)), Σ' (L16 : List (View.Piece (Elt F) S64x512 .f32)), { L17 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9) ∗ (arg12.view.loc (c : Thread nD τ) ↦[arg12.view.set]{fullShare} arg12.view.writes (Elt F) (harg12.unread y10) L10) ∗ (arg13.view.loc (c : Thread nD τ) ↦[arg13.view.set]{fullShare} arg13.view.writes (Elt F) (harg13.unread y11) L11) ∗ (arg14.view.loc (c : Thread nD τ) ↦[arg14.view.set]{fullShare} arg14.view.writes (Elt F) (harg14.unread y12) L12) ∗ (arg15.view.loc (c : Thread nD τ) ↦[arg15.view.set]{fullShare} arg15.view.writes (Elt F) (harg15.unread y13) L13) ∗ (arg16.view.loc (c : Thread nD τ) ↦[arg16.view.set]{fullShare} arg16.view.writes (Elt F) (harg16.unread y14) L14) ∗ owns (c : Thread nD τ) arg17 fullShare y15 ∗ (arg18.view.loc (c : Thread nD τ) ↦[arg18.view.set]{fullShare} arg18.view.writes (Elt F) (harg18.unread y16) L16) ∗ (arg19.view.loc (c : Thread nD τ) ↦[arg19.view.set]{fullShare} arg19.view.writes (Elt F) (harg19.unread y17) L17)) -∗ K ⟨⟩))
          ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, fun E K => ?run⟩
  case run =>
    simp only [cc0_final_linear_fwd_bwd_eq_skeleton]; unfold cc0_final_linear_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists _; isplitr; · ipureintro; exact harg17.read_unread _
      iexact H15
    isplitl [H16]; · iexact H16
    iexact H17

end Cert.KernelIdeal.Gen

end
-- ==== Proof.KBodyC.lean ====
/- What one point leaves in each buffer, in the case of `kRun_C`. -/
module

public import proofs.«01_k».proof.Proof.KVals
public import proofs.«01_k».proof.Proof.KRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000
set_option maxRecDepth 65536

variable (c : Dev nD) (i : grid0.Coords)
  (arg2 : Memref sig .tc .smem S12 .f32) (harg2 : arg2.IsWhole)
  (arg3 : Memref sig .tc .vmem S1x512x2432 .bf16) (harg3 : arg3.IsWhole)
  (arg4 : Memref sig .tc .vmem S64x2432 .fp8e4m3) (harg4 : arg4.IsWhole)
  (arg5 : Memref sig .tc .vmem S64x1 .f32) (harg5 : arg5.IsWhole)
  (arg6 : Memref sig .tc .vmem S64x1 .f32) (harg6 : arg6.IsWhole)
  (arg7 : Memref sig .tc .vmem S1x64x512 .bf16) (harg7 : arg7.IsWhole)
  (arg8 : Memref sig .tc .vmem S1x64x512 .bf16) (harg8 : arg8.IsWhole)
  (arg9 : Memref sig .tc .smem S12 .f32) (harg9 : arg9.IsWhole)
  (arg10 : Memref sig .tc .vmem S1x64x512 .f32) (harg10 : arg10.IsWhole)
  (arg11 : Memref sig .tc .vmem S1x512x2432 .bf16) (harg11 : arg11.IsWhole)
  (arg12 : Memref sig .tc .vmem S64x2432 .f32) (harg12 : arg12.IsWhole)
  (arg13 : Memref sig .tc .vmem S1x512x2432 .fp8e4m3) (harg13 : arg13.IsWhole)
  (arg14 : Memref sig .tc .vmem S12x4096 .f32) (harg14 : arg14.IsWhole)
  (arg15 : Memref sig .tc .vmem S1x64x512 .fp8e5m2) (harg15 : arg15.IsWhole)
  (arg16 : Memref sig .tc .vmem S12x4096 .f32) (harg16 : arg16.IsWhole)
  (arg17 : Memref sig .tc .vmem S64x2432 .bf16) (harg17 : arg17.IsWhole)
  (arg18 : Memref sig .tc .vmem S64x512 .f32) (harg18 : arg18.IsWhole)
  (arg19 : Memref sig .tc .vmem S512x128 .f32) (harg19 : arg19.IsWhole)
variable (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32)
variable (hc0 : ¬cond0_0 i) (hc1 : ¬cond0_1 i) (hc2 : cond0_2 i) (hc3 : cond0_3 i)

theorem kC_7 : arg9.view.read (Elt F) (arg9.view.writes (Elt F) (harg9.unread y7) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).1)) = ELT i y7 (LO i x0 (SQ1 x1 x2 x3 x4 x5 x6 y16)) := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_elt i _ _ (off0 i) _ _).trans (congrArg (fun y => ELT i y _) (harg9.read_unread y7))

theorem kC_8 : arg10.view.read (Elt F) (arg10.view.writes (Elt F) (harg10.unread y8) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.1)) = PB x1 x2 x3 x4 := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kC_9 : arg11.view.read (Elt F) (arg11.view.writes (Elt F) (harg11.unread y9) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.1)) = DHB i x0 x1 x2 x3 x4 x5 x6 y15 := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x512x2432) _ _ _ _ _

theorem kC_10 : arg12.view.read (Elt F) (arg12.view.writes (Elt F) (harg12.unread y10) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.1)) = DWB i x0 x1 x2 x3 x4 x5 x6 y10 := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x2432) _ _ _ _ _

theorem kC_11 : arg13.view.read (Elt F) (arg13.view.writes (Elt F) (harg13.unread y11) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.1)) = HB x1 := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (hPieces_cover x1)).trans (canon_h x1)

theorem kC_12 : arg14.view.read (Elt F) (arg14.view.writes (Elt F) (harg14.unread y12) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.1)) = ROW i y12 (HS x1) := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg14.read_unread y12))

theorem kC_13 : arg15.view.read (Elt F) (arg15.view.writes (Elt F) (harg15.unread y13) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.1)) = DV i x0 x1 x2 x3 x4 x5 x6 := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kC_14 : arg16.view.read (Elt F) (arg16.view.writes (Elt F) (harg16.unread y14) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.1)) = ROW i y14 (DS i x0 x1 x2 x3 x4 x5 x6) := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg16.read_unread y14))

theorem kC_16 : arg18.view.read (Elt F) (arg18.view.writes (Elt F) (harg18.unread y16) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.1)) = SQ1 x1 x2 x3 x4 x5 x6 y16 := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x512) _ _ _ _ _

theorem kC_17 : arg19.view.read (Elt F) (arg19.view.writes (Elt F) (harg19.unread y17) ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.2.1)) = AM x1 := by
  unfold kRun_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (aPieces_cover x1)).trans (canon_a x1)

include hc0 hc1 hc2 hc3 in
/-- The whole body in this case: every buffer owned at what the body leaves there. -/
theorem kBody_C (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (ELT i y7 (LO i x0 (SQ1 x1 x2 x3 x4 x5 x6 y16))) ∗ owns (c : Thread nD τ) arg10 fullShare (PB x1 x2 x3 x4) ∗ owns (c : Thread nD τ) arg11 fullShare (DHB i x0 x1 x2 x3 x4 x5 x6 y15) ∗ owns (c : Thread nD τ) arg12 fullShare (DWB i x0 x1 x2 x3 x4 x5 x6 y10) ∗ owns (c : Thread nD τ) arg13 fullShare (HB x1) ∗ owns (c : Thread nD τ) arg14 fullShare (ROW i y12 (HS x1)) ∗ owns (c : Thread nD τ) arg15 fullShare (DV i x0 x1 x2 x3 x4 x5 x6) ∗ owns (c : Thread nD τ) arg16 fullShare (ROW i y14 (DS i x0 x1 x2 x3 x4 x5 x6)) ∗ owns (c : Thread nD τ) arg17 fullShare (y15) ∗ owns (c : Thread nD τ) arg18 fullShare (SQ1 x1 x2 x3 x4 x5 x6 y16) ∗ owns (c : Thread nD τ) arg19 fullShare (AM x1)) -∗ K ⟨⟩))
      ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, H15, H16, H17, Hk⟩
  iapply ((kRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]; · (iexact H0)
  isplitl [H1]; · (iexact H1)
  isplitl [H2]; · (iexact H2)
  isplitl [H3]; · (iexact H3)
  isplitl [H4]; · (iexact H4)
  isplitl [H5]; · (iexact H5)
  isplitl [H6]; · (iexact H6)
  isplitl [H7]; · (unfold owns; iexists _; isplitr; swap; (· iexact H7); ipureintro; exact kC_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H8]; · (unfold owns; iexists _; isplitr; swap; (· iexact H8); ipureintro; exact kC_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H9]; · (unfold owns; iexists _; isplitr; swap; (· iexact H9); ipureintro; exact kC_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H10]; · (unfold owns; iexists _; isplitr; swap; (· iexact H10); ipureintro; exact kC_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H11]; · (unfold owns; iexists _; isplitr; swap; (· iexact H11); ipureintro; exact kC_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H12]; · (unfold owns; iexists _; isplitr; swap; (· iexact H12); ipureintro; exact kC_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H13]; · (unfold owns; iexists _; isplitr; swap; (· iexact H13); ipureintro; exact kC_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H14]; · (unfold owns; iexists _; isplitr; swap; (· iexact H14); ipureintro; exact kC_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H15]; · (iexact H15)
  isplitl [H16]; · (unfold owns; iexists _; isplitr; swap; (· iexact H16); ipureintro; exact kC_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  unfold owns; iexists _; isplitr; swap; (· iexact H17); ipureintro; exact kC_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3

end Cert.KernelIdeal.Gen

end
-- ==== Proof.KRunD.lean ====
/- What the kernel's body leaves in each buffer at a later sample's first point of the grid, found by running it. -/
module

public import proofs.«01_k».proof.Proof.KRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later sample's first point: from every buffer at named contents the body runs, and each buffer it stores into ends with the
    run's pieces (last first) written over what it held. -/
noncomputable def kRun_D (c : Dev nD) (i : grid0.Coords) (arg2 : Memref sig .tc .smem S12 .f32) (harg2 : arg2.IsWhole) (arg3 : Memref sig .tc .vmem S1x512x2432 .bf16) (harg3 : arg3.IsWhole) (arg4 : Memref sig .tc .vmem S64x2432 .fp8e4m3) (harg4 : arg4.IsWhole) (arg5 : Memref sig .tc .vmem S64x1 .f32) (harg5 : arg5.IsWhole) (arg6 : Memref sig .tc .vmem S64x1 .f32) (harg6 : arg6.IsWhole) (arg7 : Memref sig .tc .vmem S1x64x512 .bf16) (harg7 : arg7.IsWhole) (arg8 : Memref sig .tc .vmem S1x64x512 .bf16) (harg8 : arg8.IsWhole) (arg9 : Memref sig .tc .smem S12 .f32) (harg9 : arg9.IsWhole) (arg10 : Memref sig .tc .vmem S1x64x512 .f32) (harg10 : arg10.IsWhole) (arg11 : Memref sig .tc .vmem S1x512x2432 .bf16) (harg11 : arg11.IsWhole) (arg12 : Memref sig .tc .vmem S64x2432 .f32) (harg12 : arg12.IsWhole) (arg13 : Memref sig .tc .vmem S1x512x2432 .fp8e4m3) (harg13 : arg13.IsWhole) (arg14 : Memref sig .tc .vmem S12x4096 .f32) (harg14 : arg14.IsWhole) (arg15 : Memref sig .tc .vmem S1x64x512 .fp8e5m2) (harg15 : arg15.IsWhole) (arg16 : Memref sig .tc .vmem S12x4096 .f32) (harg16 : arg16.IsWhole) (arg17 : Memref sig .tc .vmem S64x2432 .bf16) (harg17 : arg17.IsWhole) (arg18 : Memref sig .tc .vmem S64x512 .f32) (harg18 : arg18.IsWhole) (arg19 : Memref sig .tc .vmem S512x128 .f32) (harg19 : arg19.IsWhole)
    (hc0 : ¬cond0_0 i) (hc1 : cond0_1 i) (hc2 : ¬cond0_2 i) (hc3 : ¬cond0_3 i)
    (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32) :
    Σ' (L8 : List (View.Piece (Elt F) S1x64x512 .f32)), Σ' (L9 : List (View.Piece (Elt F) S1x512x2432 .bf16)), Σ' (L10 : List (View.Piece (Elt F) S64x2432 .f32)), Σ' (L11 : List (View.Piece (Elt F) S1x512x2432 .fp8e4m3)), Σ' (L12 : List (View.Piece (Elt F) S12x4096 .f32)), Σ' (L13 : List (View.Piece (Elt F) S1x64x512 .fp8e5m2)), Σ' (L14 : List (View.Piece (Elt F) S12x4096 .f32)), Σ' (L16 : List (View.Piece (Elt F) S64x512 .f32)), { L17 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9) ∗ (arg12.view.loc (c : Thread nD τ) ↦[arg12.view.set]{fullShare} arg12.view.writes (Elt F) (harg12.unread y10) L10) ∗ (arg13.view.loc (c : Thread nD τ) ↦[arg13.view.set]{fullShare} arg13.view.writes (Elt F) (harg13.unread y11) L11) ∗ (arg14.view.loc (c : Thread nD τ) ↦[arg14.view.set]{fullShare} arg14.view.writes (Elt F) (harg14.unread y12) L12) ∗ (arg15.view.loc (c : Thread nD τ) ↦[arg15.view.set]{fullShare} arg15.view.writes (Elt F) (harg15.unread y13) L13) ∗ (arg16.view.loc (c : Thread nD τ) ↦[arg16.view.set]{fullShare} arg16.view.writes (Elt F) (harg16.unread y14) L14) ∗ owns (c : Thread nD τ) arg17 fullShare y15 ∗ (arg18.view.loc (c : Thread nD τ) ↦[arg18.view.set]{fullShare} arg18.view.writes (Elt F) (harg18.unread y16) L16) ∗ (arg19.view.loc (c : Thread nD τ) ↦[arg19.view.set]{fullShare} arg19.view.writes (Elt F) (harg19.unread y17) L17)) -∗ K ⟨⟩))
          ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, fun E K => ?run⟩
  case run =>
    simp only [cc0_final_linear_fwd_bwd_eq_skeleton]; unfold cc0_final_linear_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists _; isplitr; · ipureintro; exact harg17.read_unread _
      iexact H15
    isplitl [H16]; · iexact H16
    iexact H17

end Cert.KernelIdeal.Gen

end
-- ==== Proof.KBodyD.lean ====
/- What one point leaves in each buffer, in the case of `kRun_D`. -/
module

public import proofs.«01_k».proof.Proof.KVals
public import proofs.«01_k».proof.Proof.KRunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000
set_option maxRecDepth 65536

variable (c : Dev nD) (i : grid0.Coords)
  (arg2 : Memref sig .tc .smem S12 .f32) (harg2 : arg2.IsWhole)
  (arg3 : Memref sig .tc .vmem S1x512x2432 .bf16) (harg3 : arg3.IsWhole)
  (arg4 : Memref sig .tc .vmem S64x2432 .fp8e4m3) (harg4 : arg4.IsWhole)
  (arg5 : Memref sig .tc .vmem S64x1 .f32) (harg5 : arg5.IsWhole)
  (arg6 : Memref sig .tc .vmem S64x1 .f32) (harg6 : arg6.IsWhole)
  (arg7 : Memref sig .tc .vmem S1x64x512 .bf16) (harg7 : arg7.IsWhole)
  (arg8 : Memref sig .tc .vmem S1x64x512 .bf16) (harg8 : arg8.IsWhole)
  (arg9 : Memref sig .tc .smem S12 .f32) (harg9 : arg9.IsWhole)
  (arg10 : Memref sig .tc .vmem S1x64x512 .f32) (harg10 : arg10.IsWhole)
  (arg11 : Memref sig .tc .vmem S1x512x2432 .bf16) (harg11 : arg11.IsWhole)
  (arg12 : Memref sig .tc .vmem S64x2432 .f32) (harg12 : arg12.IsWhole)
  (arg13 : Memref sig .tc .vmem S1x512x2432 .fp8e4m3) (harg13 : arg13.IsWhole)
  (arg14 : Memref sig .tc .vmem S12x4096 .f32) (harg14 : arg14.IsWhole)
  (arg15 : Memref sig .tc .vmem S1x64x512 .fp8e5m2) (harg15 : arg15.IsWhole)
  (arg16 : Memref sig .tc .vmem S12x4096 .f32) (harg16 : arg16.IsWhole)
  (arg17 : Memref sig .tc .vmem S64x2432 .bf16) (harg17 : arg17.IsWhole)
  (arg18 : Memref sig .tc .vmem S64x512 .f32) (harg18 : arg18.IsWhole)
  (arg19 : Memref sig .tc .vmem S512x128 .f32) (harg19 : arg19.IsWhole)
variable (x0 : Vec F S12 .f32) (x1 : Vec F S1x512x2432 .bf16) (x2 : Vec F S64x2432 .fp8e4m3) (x3 : Vec F S64x1 .f32) (x4 : Vec F S64x1 .f32) (x5 : Vec F S1x64x512 .bf16) (x6 : Vec F S1x64x512 .bf16) (y7 : Vec F S12 .f32) (y8 : Vec F S1x64x512 .f32) (y9 : Vec F S1x512x2432 .bf16) (y10 : Vec F S64x2432 .f32) (y11 : Vec F S1x512x2432 .fp8e4m3) (y12 : Vec F S12x4096 .f32) (y13 : Vec F S1x64x512 .fp8e5m2) (y14 : Vec F S12x4096 .f32) (y15 : Vec F S64x2432 .bf16) (y16 : Vec F S64x512 .f32) (y17 : Vec F S512x128 .f32)
variable (hc0 : ¬cond0_0 i) (hc1 : cond0_1 i) (hc2 : ¬cond0_2 i) (hc3 : ¬cond0_3 i)

theorem kD_8 : arg10.view.read (Elt F) (arg10.view.writes (Elt F) (harg10.unread y8) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).1)) = PB x1 x2 x3 x4 := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kD_9 : arg11.view.read (Elt F) (arg11.view.writes (Elt F) (harg11.unread y9) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.1)) = DHB i x0 x1 x2 x3 x4 x5 x6 y15 := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x512x2432) _ _ _ _ _

theorem kD_10 : arg12.view.read (Elt F) (arg12.view.writes (Elt F) (harg12.unread y10) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.1)) = DWB i x0 x1 x2 x3 x4 x5 x6 y10 := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x2432) _ _ _ _ _

theorem kD_11 : arg13.view.read (Elt F) (arg13.view.writes (Elt F) (harg13.unread y11) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.1)) = HB x1 := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (hPieces_cover x1)).trans (canon_h x1)

theorem kD_12 : arg14.view.read (Elt F) (arg14.view.writes (Elt F) (harg14.unread y12) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.1)) = ROW i y12 (HS x1) := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg14.read_unread y12))

theorem kD_13 : arg15.view.read (Elt F) (arg15.view.writes (Elt F) (harg15.unread y13) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.1)) = DV i x0 x1 x2 x3 x4 x5 x6 := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S1x64x512) _ _ _ _ _

theorem kD_14 : arg16.view.read (Elt F) (arg16.view.writes (Elt F) (harg16.unread y14) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.1)) = ROW i y14 (DS i x0 x1 x2 x3 x4 x5 x6) := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (read_row i _ _ (off0 i) (off1 i) _ _).trans (congrArg (fun y => ROW i y _) (harg16.read_unread y14))

theorem kD_16 : arg18.view.read (Elt F) (arg18.view.writes (Elt F) (harg18.unread y16) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.1)) = SQ0 x1 x2 x3 x4 x5 x6 := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact View.read_writes_full (s := S64x512) _ _ _ _ _

theorem kD_17 : arg19.view.read (Elt F) (arg19.view.writes (Elt F) (harg19.unread y17) ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.1)) = AM x1 := by
  unfold kRun_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, ld_slab_0, hq_0, am_0, ld_slab_1, hq_1, am_1, ld_slab_2, hq_2, am_2, ld_slab_3, hq_3, am_3, ld_slab_4, hq_4, am_4, ld_slab_5, hq_5, am_5, ld_slab_6, hq_6, am_6, ld_slab_7, hq_7, am_7, ld_slab_8, hq_8, am_8, ld_slab_9, hq_9, am_9, ld_slab_10, hq_10, am_10, ld_slab_11, hq_11, am_11, ld_slab_12, hq_12, am_12, ld_slab_13, hq_13, am_13, ld_slab_14, hq_14, am_14, ld_slab_15, hq_15, am_15,
    readCov_h, readCov_a, ldw_0, ldw_1, ldw_2, ldw_3, ldw_4, ldw_5, rcw_0, rcw_1, rcw_2]
  exact (View.read_writes_eq_canon _ _ _ (aPieces_cover x1)).trans (canon_a x1)

include hc0 hc1 hc2 hc3 in
/-- The whole body in this case: every buffer owned at what the body leaves there. -/
theorem kBody_D (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (y7) ∗ owns (c : Thread nD τ) arg10 fullShare (PB x1 x2 x3 x4) ∗ owns (c : Thread nD τ) arg11 fullShare (DHB i x0 x1 x2 x3 x4 x5 x6 y15) ∗ owns (c : Thread nD τ) arg12 fullShare (DWB i x0 x1 x2 x3 x4 x5 x6 y10) ∗ owns (c : Thread nD τ) arg13 fullShare (HB x1) ∗ owns (c : Thread nD τ) arg14 fullShare (ROW i y12 (HS x1)) ∗ owns (c : Thread nD τ) arg15 fullShare (DV i x0 x1 x2 x3 x4 x5 x6) ∗ owns (c : Thread nD τ) arg16 fullShare (ROW i y14 (DS i x0 x1 x2 x3 x4 x5 x6)) ∗ owns (c : Thread nD τ) arg17 fullShare (y15) ∗ owns (c : Thread nD τ) arg18 fullShare (SQ0 x1 x2 x3 x4 x5 x6) ∗ owns (c : Thread nD τ) arg19 fullShare (AM x1)) -∗ K ⟨⟩))
      ⊢ wp frame (wpE (defs₀ (F := F)) Variants.none c none) E (cc0_final_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, H15, H16, H17, Hk⟩
  iapply ((kRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 y7 y8 y9 y10 y11 y12 y13 y14 y15 y16 y17).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  iapply Hk
  isplitl [H0]; · (iexact H0)
  isplitl [H1]; · (iexact H1)
  isplitl [H2]; · (iexact H2)
  isplitl [H3]; · (iexact H3)
  isplitl [H4]; · (iexact H4)
  isplitl [H5]; · (iexact H5)
  isplitl [H6]; · (iexact H6)
  isplitl [H7]; · (iexact H7)
  isplitl [H8]; · (unfold owns; iexists _; isplitr; swap; (· iexact H8); ipureintro; exact kD_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H9]; · (unfold owns; iexists _; isplitr; swap; (· iexact H9); ipureintro; exact kD_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H10]; · (unfold owns; iexists _; isplitr; swap; (· iexact H10); ipureintro; exact kD_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H11]; · (unfold owns; iexists _; isplitr; swap; (· iexact H11); ipureintro; exact kD_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H12]; · (unfold owns; iexists _; isplitr; swap; (· iexact H12); ipureintro; exact kD_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H13]; · (unfold owns; iexists _; isplitr; swap; (· iexact H13); ipureintro; exact kD_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H14]; · (unfold owns; iexists _; isplitr; swap; (· iexact H14); ipureintro; exact kD_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  isplitl [H15]; · (iexact H15)
  isplitl [H16]; · (unfold owns; iexists _; isplitr; swap; (· iexact H16); ipureintro; exact kD_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3)
  unfold owns; iexists _; isplitr; swap; (· iexact H17); ipureintro; exact kD_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 y7 y8 y9 y10 y11 y12 y13 y14 y15 y16 y17 hc0 hc1 hc2 hc3

end Cert.KernelIdeal.Gen

end
-- ==== Proof.KDat.lean ====
/- What every point of the grid finds and leaves in each staging buffer and scratch buffer, and the launch run with it:
   the proof data of the kernel's pipeline, stated as a relation at each point. -/
module

public import proofs.«01_k».proof.Proof.KBodyA
public import proofs.«01_k».proof.Proof.KBodyB
public import proofs.«01_k».proof.Proof.KBodyC
public import proofs.«01_k».proof.Proof.KBodyD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000

/-- The first grid point. -/
abbrev pt0 : Fin cfg0.N := ⟨0, by have h : cfg0.N = 96 := N_0; omega⟩

/-- The dequantised weight every point finds in the first scratch buffer after the first point. -/
def WBM (c : Dev nD) : Vec F S64x2432 .bf16 := WB (iblk m c 2 pt0) (iblk m c 3 pt0)

/-- The running sum of squares the second scratch buffer holds after point `k`: started afresh at the points ≡ 0 (mod 8). -/
def SQM (c : Dev nD) : (k : ℕ) → k < cfg0.N → Vec F S64x512 .f32
  | 0, h => SQ0 (iblk m c 1 ⟨0, h⟩) (iblk m c 2 ⟨0, h⟩) (iblk m c 3 ⟨0, h⟩) (iblk m c 4 ⟨0, h⟩) (iblk m c 5 ⟨0, h⟩) (iblk m c 6 ⟨0, h⟩)
  | k + 1, h => if (k + 1) % 8 = 0 then
      SQ0 (iblk m c 1 ⟨k + 1, h⟩) (iblk m c 2 ⟨k + 1, h⟩) (iblk m c 3 ⟨k + 1, h⟩) (iblk m c 4 ⟨k + 1, h⟩) (iblk m c 5 ⟨k + 1, h⟩) (iblk m c 6 ⟨k + 1, h⟩)
    else SQ1 (iblk m c 1 ⟨k + 1, h⟩) (iblk m c 2 ⟨k + 1, h⟩) (iblk m c 3 ⟨k + 1, h⟩) (iblk m c 4 ⟨k + 1, h⟩) (iblk m c 5 ⟨k + 1, h⟩) (iblk m c 6 ⟨k + 1, h⟩)
      (SQM c k (Nat.lt_of_succ_lt h))

theorem SQM_start (c : Dev nD) (t : Fin cfg0.N) (h : t.val % 8 = 0) :
    SQM m c t.val t.isLt = SQ0 (iblk m c 1 t) (iblk m c 2 t) (iblk m c 3 t) (iblk m c 4 t) (iblk m c 5 t) (iblk m c 6 t) := by
  obtain ⟨k, hk⟩ := t
  cases k with
  | zero => rfl
  | succ k => exact if_pos h

theorem SQM_next (c : Dev nD) (t : Fin cfg0.N) (h : t.val % 8 ≠ 0) (h' : t.val - 1 < cfg0.N) :
    SQM m c t.val t.isLt = SQ1 (iblk m c 1 t) (iblk m c 2 t) (iblk m c 3 t) (iblk m c 4 t) (iblk m c 5 t) (iblk m c 6 t) (SQM m c (t.val - 1) h') := by
  obtain ⟨k, hk⟩ := t
  cases k with
  | zero => exact absurd rfl h
  | succ k => exact if_neg h

/-- What the scratch buffers hold between points. -/
def PhiR (c : Dev nD) : (k : ℕ) → k ≤ cfg0.N → sProp 𝕄
  | 0, _ => Pipeline.ΦA spec0 c
  | k + 1, h => iprop(iprop(owns (c : Thread nD τ) scM0_0 fullShare (WBM m c) ∗ owns (c : Thread nD τ) scM0_1 fullShare (SQM m c k h)
      ∗ (∃ d, owns (c : Thread nD τ) scM0_2 fullShare d)) ∗ (∃ r, prngReg c r))

/-- What a point leaves in each window's staging buffer, given what it found there. -/
def afterR (c : Dev nD) (w : Fin cfg0.W) (t : Fin cfg0.N) (Y X : (cfg0.win w).block.Idx → Elt F (cfg0.win w).elt) : Prop :=
  match w, Y, X with
  | ⟨0, _⟩, Y, X => X = Y
  | ⟨1, _⟩, Y, X => X = Y
  | ⟨2, _⟩, Y, X => X = Y
  | ⟨3, _⟩, Y, X => X = Y
  | ⟨4, _⟩, Y, X => X = Y
  | ⟨5, _⟩, Y, X => X = Y
  | ⟨6, _⟩, Y, X => X = Y
  | ⟨7, _⟩, Y, X => X = (if t.val % 8 = 7 then ELT (grid0.coords t) Y (LO (grid0.coords t) (iblk m c 0 t) (SQM m c t.val t.isLt)) else Y)
  | ⟨8, _⟩, Y, X => X = (PB (iblk m c 1 t) (iblk m c 2 t) (iblk m c 3 t) (iblk m c 4 t))
  | ⟨9, _⟩, Y, X => X = (DHB (grid0.coords t) (iblk m c 0 t) (iblk m c 1 t) (iblk m c 2 t) (iblk m c 3 t) (iblk m c 4 t) (iblk m c 5 t) (iblk m c 6 t) (WBM m c))
  | ⟨10, _⟩, Y, X => X = (DWB (grid0.coords t) (iblk m c 0 t) (iblk m c 1 t) (iblk m c 2 t) (iblk m c 3 t) (iblk m c 4 t) (iblk m c 5 t) (iblk m c 6 t) (if t.val = 0 then k0_pay4 else Y))
  | ⟨11, _⟩, Y, X => X = (HB (iblk m c 1 t))
  | ⟨12, _⟩, Y, X => X = (ROW (grid0.coords t) Y (HS (iblk m c 1 t)))
  | ⟨13, _⟩, Y, X => X = (DV (grid0.coords t) (iblk m c 0 t) (iblk m c 1 t) (iblk m c 2 t) (iblk m c 3 t) (iblk m c 4 t) (iblk m c 5 t) (iblk m c 6 t))
  | ⟨14, _⟩, Y, X => X = (ROW (grid0.coords t) Y (DS (grid0.coords t) (iblk m c 0 t) (iblk m c 1 t) (iblk m c 2 t) (iblk m c 3 t) (iblk m c 4 t) (iblk m c 5 t) (iblk m c 6 t)))

/-- The proof data: the arrays at entry, what a point leaves, what the scratch buffers hold between points. -/
def rdats (c : Dev nD) : Pipeline.RDat τ (Elt F) Unit ℕ (UR sig nD τ) ℕ cfg0 c where
  A w := V m c (Pipeline.arrRef spec0 w)
  after := afterR m c
  Φ k := PhiR m c k.val (Nat.le_of_lt_succ k.isLt)
  q := fun _ => fullShare
  owed := fun _ _ => 0

theorem finds_0 (c : Dev nD) (t : Fin cfg0.N) (Y) (h : (rdats m c).Finds 0 t Y) : Y = iblk m c 0 t := by
  obtain ⟨d, rfl⟩ := (rdats m c).finds_in_eq_fetched 0 rfl (fun _ _ _ => rfl) (fun t Y X h => h) t Y h
  rfl
theorem finds_1 (c : Dev nD) (t : Fin cfg0.N) (Y) (h : (rdats m c).Finds 1 t Y) : Y = iblk m c 1 t := by
  obtain ⟨d, rfl⟩ := (rdats m c).finds_in_eq_fetched 1 rfl (fun _ _ _ => rfl) (fun t Y X h => h) t Y h
  rfl
theorem finds_2 (c : Dev nD) (t : Fin cfg0.N) (Y) (h : (rdats m c).Finds 2 t Y) : Y = iblk m c 2 t := by
  obtain ⟨d, rfl⟩ := (rdats m c).finds_in_eq_fetched 2 rfl (fun _ _ _ => rfl) (fun t Y X h => h) t Y h
  rfl
theorem finds_3 (c : Dev nD) (t : Fin cfg0.N) (Y) (h : (rdats m c).Finds 3 t Y) : Y = iblk m c 3 t := by
  obtain ⟨d, rfl⟩ := (rdats m c).finds_in_eq_fetched 3 rfl (fun _ _ _ => rfl) (fun t Y X h => h) t Y h
  rfl
theorem finds_4 (c : Dev nD) (t : Fin cfg0.N) (Y) (h : (rdats m c).Finds 4 t Y) : Y = iblk m c 4 t := by
  obtain ⟨d, rfl⟩ := (rdats m c).finds_in_eq_fetched 4 rfl (fun _ _ _ => rfl) (fun t Y X h => h) t Y h
  rfl
theorem finds_5 (c : Dev nD) (t : Fin cfg0.N) (Y) (h : (rdats m c).Finds 5 t Y) : Y = iblk m c 5 t := by
  obtain ⟨d, rfl⟩ := (rdats m c).finds_in_eq_fetched 5 rfl (fun _ _ _ => rfl) (fun t Y X h => h) t Y h
  rfl
theorem finds_6 (c : Dev nD) (t : Fin cfg0.N) (Y) (h : (rdats m c).Finds 6 t Y) : Y = iblk m c 6 t := by
  obtain ⟨d, rfl⟩ := (rdats m c).finds_in_eq_fetched 6 rfl (fun _ _ _ => rfl) (fun t Y X h => h) t Y h
  rfl
theorem iblk_const_2 (c : Dev nD) (t t' : Fin cfg0.N) : iblk m c 2 t = iblk m c 2 t' := rfl
theorem iblk_const_3 (c : Dev nD) (t t' : Fin cfg0.N) : iblk m c 3 t = iblk m c 3 t' := rfl
theorem iblk_const_4 (c : Dev nD) (t t' : Fin cfg0.N) : iblk m c 4 t = iblk m c 4 t' := rfl
theorem WBM_eq (c : Dev nD) (t : Fin cfg0.N) : WBM m c = WB (iblk m c 2 t) (iblk m c 3 t) := rfl

/-- The body at any point, from the blocks and the scratch buffers as the points before left them. -/
theorem body_at (c : Dev nD) (t : Fin cfg0.N) (Y7 : Vec F S12 .f32) (Y8 : Vec F S1x64x512 .f32) (Y9 : Vec F S1x512x2432 .bf16) (Y10 : Vec F S64x2432 .f32) (Y11 : Vec F S1x512x2432 .fp8e4m3) (Y12 : Vec F S12x4096 .f32) (Y13 : Vec F S1x64x512 .fp8e5m2) (Y14 : Vec F S12x4096 .f32) (O : sProp 𝕄) :
    iprop(PhiR m c t.val (Nat.le_of_lt t.isLt) ∗ O
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ owns (c : Thread nD τ) (ms0_6 t) fullShare (iblk m c 6 t)
        ∗ owns (c : Thread nD τ) (ms0_7 t) fullShare Y7
        ∗ owns (c : Thread nD τ) (ms0_8 t) fullShare Y8
        ∗ owns (c : Thread nD τ) (ms0_9 t) fullShare Y9
        ∗ owns (c : Thread nD τ) (ms0_10 t) fullShare Y10
        ∗ owns (c : Thread nD τ) (ms0_11 t) fullShare Y11
        ∗ owns (c : Thread nD τ) (ms0_12 t) fullShare Y12
        ∗ owns (c : Thread nD τ) (ms0_13 t) fullShare Y13
        ∗ owns (c : Thread nD τ) (ms0_14 t) fullShare Y14)
      ⊢ wp frame (wpE (defs₀ (F := F)) Variants.none c none) Set.univ (bodyAt0 t) (fun _ =>
    iprop(PhiR m c (t.val + 1) t.isLt ∗ O
        ∗ (∃ X, ⌜X = iblk m c 0 t⌝ ∗ owns (c : Thread nD τ) (ms0_0 t) fullShare X)
        ∗ (∃ X, ⌜X = iblk m c 1 t⌝ ∗ owns (c : Thread nD τ) (ms0_1 t) fullShare X)
        ∗ (∃ X, ⌜X = iblk m c 2 t⌝ ∗ owns (c : Thread nD τ) (ms0_2 t) fullShare X)
        ∗ (∃ X, ⌜X = iblk m c 3 t⌝ ∗ owns (c : Thread nD τ) (ms0_3 t) fullShare X)
        ∗ (∃ X, ⌜X = iblk m c 4 t⌝ ∗ owns (c : Thread nD τ) (ms0_4 t) fullShare X)
        ∗ (∃ X, ⌜X = iblk m c 5 t⌝ ∗ owns (c : Thread nD τ) (ms0_5 t) fullShare X)
        ∗ (∃ X, ⌜X = iblk m c 6 t⌝ ∗ owns (c : Thread nD τ) (ms0_6 t) fullShare X)
        ∗ (∃ X, ⌜X = (if t.val % 8 = 7 then ELT (grid0.coords t) Y7 (LO (grid0.coords t) (iblk m c 0 t) (SQM m c t.val t.isLt)) else Y7)⌝ ∗ owns (c : Thread nD τ) (ms0_7 t) fullShare X)
        ∗ (∃ X, ⌜X = (PB (iblk m c 1 t) (iblk m c 2 t) (iblk m c 3 t) (iblk m c 4 t))⌝ ∗ owns (c : Thread nD τ) (ms0_8 t) fullShare X)
        ∗ (∃ X, ⌜X = (DHB (grid0.coords t) (iblk m c 0 t) (iblk m c 1 t) (iblk m c 2 t) (iblk m c 3 t) (iblk m c 4 t) (iblk m c 5 t) (iblk m c 6 t) (WBM m c))⌝ ∗ owns (c : Thread nD τ) (ms0_9 t) fullShare X)
        ∗ (∃ X, ⌜X = (DWB (grid0.coords t) (iblk m c 0 t) (iblk m c 1 t) (iblk m c 2 t) (iblk m c 3 t) (iblk m c 4 t) (iblk m c 5 t) (iblk m c 6 t) (if t.val = 0 then k0_pay4 else Y10))⌝ ∗ owns (c : Thread nD τ) (ms0_10 t) fullShare X)
        ∗ (∃ X, ⌜X = (HB (iblk m c 1 t))⌝ ∗ owns (c : Thread nD τ) (ms0_11 t) fullShare X)
        ∗ (∃ X, ⌜X = (ROW (grid0.coords t) Y12 (HS (iblk m c 1 t)))⌝ ∗ owns (c : Thread nD τ) (ms0_12 t) fullShare X)
        ∗ (∃ X, ⌜X = (DV (grid0.coords t) (iblk m c 0 t) (iblk m c 1 t) (iblk m c 2 t) (iblk m c 3 t) (iblk m c 4 t) (iblk m c 5 t) (iblk m c 6 t))⌝ ∗ owns (c : Thread nD τ) (ms0_13 t) fullShare X)
        ∗ (∃ X, ⌜X = (ROW (grid0.coords t) Y14 (DS (grid0.coords t) (iblk m c 0 t) (iblk m c 1 t) (iblk m c 2 t) (iblk m c 3 t) (iblk m c 4 t) (iblk m c 5 t) (iblk m c 6 t)))⌝ ∗ owns (c : Thread nD τ) (ms0_14 t) fullShare X))) := by
  unfold bodyAt0
  have hN : t.val < 96 := lt_of_lt_of_eq t.isLt (show cfg0.N = 96 from N_0)
  by_cases h0 : t.val % 96 = 0
  · have hz : t.val = 0 := by omega
    have h1 : t.val % 8 = 0 := by omega
    have h2 : ¬ 1 ≤ t.val % 8 := by omega
    have h3 : ¬ t.val % 8 = 7 := by omega
    obtain rfl : t = pt0 := Fin.ext hz
    rw [show PhiR m c (pt0).val (Nat.le_of_lt pt0.isLt) = Pipeline.ΦA spec0 c from rfl, PhiA0_eq]
    simp only [PhiR]
    iintro ⟨⟨⟨⟨%d0, HS0⟩, ⟨%d1, HS1⟩, ⟨%d2, HS2⟩⟩, Hg⟩, Ho, H0, H1, H2, H3, H4, H5, H6, H7, H8, H9, H10, H11, H12, H13, H14⟩
    iapply (kBody_A c (grid0.coords pt0) _ _ _ _ _ _ _ _ _ _ _ _ _ _ _ _ _ _ _ _ _ _ _ _ _ _ _ _ _ _ _ _ _ _ _ _ (iblk m c 0 pt0) (iblk m c 1 pt0) (iblk m c 2 pt0) (iblk m c 3 pt0) (iblk m c 4 pt0) (iblk m c 5 pt0) (iblk m c 6 pt0) Y7 Y8 Y9 Y10 Y11 Y12 Y13 Y14 d0 d1 d2 ((hcond0_0 pt0).mpr h0) ((hcond0_1 pt0).mpr h1) (fun h => h2 ((hcond0_2 pt0).mp h)) (fun h => h3 ((hcond0_3 pt0).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]; · iexact HS0
        isplitl [HS1]; · iexact HS1
        iexists _; iexact HS2
      iexact Hg
    isplitl [Ho]; · iexact Ho
    isplitl [H0]; · iexists _; isplitr; swap; (· iexact H0); ipureintro; exact rfl
    isplitl [H1]; · iexists _; isplitr; swap; (· iexact H1); ipureintro; exact rfl
    isplitl [H2]; · iexists _; isplitr; swap; (· iexact H2); ipureintro; exact rfl
    isplitl [H3]; · iexists _; isplitr; swap; (· iexact H3); ipureintro; exact rfl
    isplitl [H4]; · iexists _; isplitr; swap; (· iexact H4); ipureintro; exact rfl
    isplitl [H5]; · iexists _; isplitr; swap; (· iexact H5); ipureintro; exact rfl
    isplitl [H6]; · iexists _; isplitr; swap; (· iexact H6); ipureintro; exact rfl
    isplitl [H7]; · iexists _; isplitr; swap; (· iexact H7); ipureintro; exact (if_neg h3).symm
    isplitl [H8]; · iexists _; isplitr; swap; (· iexact H8); ipureintro; exact rfl
    isplitl [H9]; · iexists _; isplitr; swap; (· iexact H9); ipureintro; exact rfl
    isplitl [H10]; · iexists _; isplitr; swap; (· iexact H10); ipureintro; exact rfl
    isplitl [H11]; · iexists _; isplitr; swap; (· iexact H11); ipureintro; exact rfl
    isplitl [H12]; · iexists _; isplitr; swap; (· iexact H12); ipureintro; exact rfl
    isplitl [H13]; · iexists _; isplitr; swap; (· iexact H13); ipureintro; exact rfl
    iexists _; isplitr; swap; (· iexact H14); ipureintro; exact rfl
  · have hz : t.val ≠ 0 := by omega
    have hp : t.val - 1 < cfg0.N := Nat.lt_of_le_of_lt (Nat.sub_le _ _) t.isLt
    rw [show PhiR m c t.val (Nat.le_of_lt t.isLt) = iprop(iprop(owns (c : Thread nD τ) scM0_0 fullShare (WBM m c) ∗ owns (c : Thread nD τ) scM0_1 fullShare (SQM m c (t.val - 1) hp)
      ∗ (∃ d, owns (c : Thread nD τ) scM0_2 fullShare d)) ∗ (∃ r, prngReg c r)) from by
        obtain ⟨k, hk⟩ := t
        cases k with
        | zero => exact absurd rfl hz
        | succ k => rfl]
    simp only [PhiR]
    by_cases h1 : t.val % 8 = 0
    · have h2 : ¬ 1 ≤ t.val % 8 := by omega
      have h3 : ¬ t.val % 8 = 7 := by omega
      rw [SQM_start m c t h1]
      iintro ⟨⟨⟨HS0, HS1, ⟨%d2, HS2⟩⟩, Hg⟩, Ho, H0, H1, H2, H3, H4, H5, H6, H7, H8, H9, H10, H11, H12, H13, H14⟩
      iapply (kBody_D c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 Y9 Y10 Y11 Y12 Y13 Y14 (WBM m c) (SQM m c (t.val - 1) hp) d2 (fun h => h0 ((hcond0_0 t).mp h)) ((hcond0_1 t).mpr h1) (fun h => h2 ((hcond0_2 t).mp h)) (fun h => h3 ((hcond0_3 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]; · iexact HS0
          isplitl [HS1]; · iexact HS1
          iexists _; iexact HS2
        iexact Hg
      isplitl [Ho]; · iexact Ho
      isplitl [H0]; · iexists _; isplitr; swap; (· iexact H0); ipureintro; exact rfl
      isplitl [H1]; · iexists _; isplitr; swap; (· iexact H1); ipureintro; exact rfl
      isplitl [H2]; · iexists _; isplitr; swap; (· iexact H2); ipureintro; exact rfl
      isplitl [H3]; · iexists _; isplitr; swap; (· iexact H3); ipureintro; exact rfl
      isplitl [H4]; · iexists _; isplitr; swap; (· iexact H4); ipureintro; exact rfl
      isplitl [H5]; · iexists _; isplitr; swap; (· iexact H5); ipureintro; exact rfl
      isplitl [H6]; · iexists _; isplitr; swap; (· iexact H6); ipureintro; exact rfl
      isplitl [H7]; · iexists _; isplitr; swap; (· iexact H7); ipureintro; exact (if_neg h3).symm
      isplitl [H8]; · iexists _; isplitr; swap; (· iexact H8); ipureintro; exact rfl
      isplitl [H9]; · iexists _; isplitr; swap; (· iexact H9); ipureintro; exact rfl
      isplitl [H10]; · iexists _; isplitr; swap; (· iexact H10); ipureintro; exact congrArg _ (if_neg hz).symm
      isplitl [H11]; · iexists _; isplitr; swap; (· iexact H11); ipureintro; exact rfl
      isplitl [H12]; · iexists _; isplitr; swap; (· iexact H12); ipureintro; exact rfl
      isplitl [H13]; · iexists _; isplitr; swap; (· iexact H13); ipureintro; exact rfl
      iexists _; isplitr; swap; (· iexact H14); ipureintro; exact rfl
    · have h2 : 1 ≤ t.val % 8 := by omega
      rw [SQM_next m c t h1 hp]
      by_cases h3 : t.val % 8 = 7
      · iintro ⟨⟨⟨HS0, HS1, ⟨%d2, HS2⟩⟩, Hg⟩, Ho, H0, H1, H2, H3, H4, H5, H6, H7, H8, H9, H10, H11, H12, H13, H14⟩
        iapply (kBody_C c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 Y9 Y10 Y11 Y12 Y13 Y14 (WBM m c) (SQM m c (t.val - 1) hp) d2 (fun h => h0 ((hcond0_0 t).mp h)) (fun h => h1 ((hcond0_1 t).mp h)) ((hcond0_2 t).mpr h2) ((hcond0_3 t).mpr h3) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS0]; · iexact HS0
        isplitl [HS1]; · iexact HS1
        isplitl [HS2]; · iexact HS2
        iintro ⟨H0, H1, H2, H3, H4, H5, H6, H7, H8, H9, H10, H11, H12, H13, H14, HS0, HS1, HS2⟩
        isplitl [HS0 HS1 HS2 Hg]
        · isplitl [HS0 HS1 HS2]
          · isplitl [HS0]; · iexact HS0
            isplitl [HS1]; · iexact HS1
            iexists _; iexact HS2
          iexact Hg
        isplitl [Ho]; · iexact Ho
        isplitl [H0]; · iexists _; isplitr; swap; (· iexact H0); ipureintro; exact rfl
        isplitl [H1]; · iexists _; isplitr; swap; (· iexact H1); ipureintro; exact rfl
        isplitl [H2]; · iexists _; isplitr; swap; (· iexact H2); ipureintro; exact rfl
        isplitl [H3]; · iexists _; isplitr; swap; (· iexact H3); ipureintro; exact rfl
        isplitl [H4]; · iexists _; isplitr; swap; (· iexact H4); ipureintro; exact rfl
        isplitl [H5]; · iexists _; isplitr; swap; (· iexact H5); ipureintro; exact rfl
        isplitl [H6]; · iexists _; isplitr; swap; (· iexact H6); ipureintro; exact rfl
        isplitl [H7]; · iexists _; isplitr; swap; (· iexact H7); ipureintro; exact (if_pos h3).symm
        isplitl [H8]; · iexists _; isplitr; swap; (· iexact H8); ipureintro; exact rfl
        isplitl [H9]; · iexists _; isplitr; swap; (· iexact H9); ipureintro; exact rfl
        isplitl [H10]; · iexists _; isplitr; swap; (· iexact H10); ipureintro; exact congrArg _ (if_neg hz).symm
        isplitl [H11]; · iexists _; isplitr; swap; (· iexact H11); ipureintro; exact rfl
        isplitl [H12]; · iexists _; isplitr; swap; (· iexact H12); ipureintro; exact rfl
        isplitl [H13]; · iexists _; isplitr; swap; (· iexact H13); ipureintro; exact rfl
        iexists _; isplitr; swap; (· iexact H14); ipureintro; exact rfl
      · iintro ⟨⟨⟨HS0, HS1, ⟨%d2, HS2⟩⟩, Hg⟩, Ho, H0, H1, H2, H3, H4, H5, H6, H7, H8, H9, H10, H11, H12, H13, H14⟩
        iapply (kBody_B c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 Y9 Y10 Y11 Y12 Y13 Y14 (WBM m c) (SQM m c (t.val - 1) hp) d2 (fun h => h0 ((hcond0_0 t).mp h)) (fun h => h1 ((hcond0_1 t).mp h)) ((hcond0_2 t).mpr h2) (fun h => h3 ((hcond0_3 t).mp h)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS0]; · iexact HS0
        isplitl [HS1]; · iexact HS1
        isplitl [HS2]; · iexact HS2
        iintro ⟨H0, H1, H2, H3, H4, H5, H6, H7, H8, H9, H10, H11, H12, H13, H14, HS0, HS1, HS2⟩
        isplitl [HS0 HS1 HS2 Hg]
        · isplitl [HS0 HS1 HS2]
          · isplitl [HS0]; · iexact HS0
            isplitl [HS1]; · iexact HS1
            iexists _; iexact HS2
          iexact Hg
        isplitl [Ho]; · iexact Ho
        isplitl [H0]; · iexists _; isplitr; swap; (· iexact H0); ipureintro; exact rfl
        isplitl [H1]; · iexists _; isplitr; swap; (· iexact H1); ipureintro; exact rfl
        isplitl [H2]; · iexists _; isplitr; swap; (· iexact H2); ipureintro; exact rfl
        isplitl [H3]; · iexists _; isplitr; swap; (· iexact H3); ipureintro; exact rfl
        isplitl [H4]; · iexists _; isplitr; swap; (· iexact H4); ipureintro; exact rfl
        isplitl [H5]; · iexists _; isplitr; swap; (· iexact H5); ipureintro; exact rfl
        isplitl [H6]; · iexists _; isplitr; swap; (· iexact H6); ipureintro; exact rfl
        isplitl [H7]; · iexists _; isplitr; swap; (· iexact H7); ipureintro; exact (if_neg h3).symm
        isplitl [H8]; · iexists _; isplitr; swap; (· iexact H8); ipureintro; exact rfl
        isplitl [H9]; · iexists _; isplitr; swap; (· iexact H9); ipureintro; exact rfl
        isplitl [H10]; · iexists _; isplitr; swap; (· iexact H10); ipureintro; exact congrArg _ (if_neg hz).symm
        isplitl [H11]; · iexists _; isplitr; swap; (· iexact H11); ipureintro; exact rfl
        isplitl [H12]; · iexists _; isplitr; swap; (· iexact H12); ipureintro; exact rfl
        isplitl [H13]; · iexists _; isplitr; swap; (· iexact H13); ipureintro; exact rfl
        iexists _; isplitr; swap; (· iexact H14); ipureintro; exact rfl

/-- What the scratch buffers hold is forgotten. -/
theorem Phi_out (c : Dev nD) (k : ℕ) (h : k ≤ cfg0.N) : PhiR m c k h ⊢ Pipeline.ΦA spec0 c := by
  cases k with
  | zero => exact .rfl
  | succ k =>
    rw [PhiA0_eq]; unfold PhiR
    iintro ⟨⟨HS0, HS1, HS2⟩, Hg⟩
    isplitl [HS0 HS1 HS2]
    · isplitl [HS0]; · iexists _; iexact HS0
      isplitl [HS1]; · iexists _; iexact HS1
      iexact HS2
    iexact Hg

theorem hout (c : Dev nD) : (rdats m c).Φ (Fin.last cfg0.N) ⊢ Pipeline.ΦA spec0 c := Phi_out m c cfg0.N (Nat.le_refl _)

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    (rdats m c).BodyObligation (defs₀ (F := F)) Variants.none () Set.univ := fun t Y hY => by
  have e0 := finds_0 m c t _ (hY 0)
  have e1 := finds_1 m c t _ (hY 1)
  have e2 := finds_2 m c t _ (hY 2)
  have e3 := finds_3 m c t _ (hY 3)
  have e4 := finds_4 m c t _ (hY 4)
  have e5 := finds_5 m c t _ (hY 5)
  have e6 := finds_6 m c t _ (hY 6)
  rw [bigSep_W0, bigSep_W0, defs₀_row]
  have h := body_at m c t (Y 7) (Y 8) (Y 9) (Y 10) (Y 11) (Y 12) (Y 13) (Y 14) ((rdats m c).owesAt () t.castSucc)
  rw [e0, e1, e2, e3, e4, e5, e6]
  exact triple_restated h rfl .rfl fun _ => .rfl

-- the run's implicit arguments are found by unifying its conclusion with this statement, which unifies only
-- when unification may unfold plain definitions in a metavariable's type
set_option backward.isDefEq.respectTransparency.types false in
/-- The run: from any memory with zero counters every weakly fair execution of the program ends, every array holding
    what the write-backs of what the points leave may make of it, every counter zero. -/
theorem run_main :
    θ_run defs (onTc (τ := τ) (main (F := F))) (s₀ m ρ)
      (fun r => Pipeline.RDat.FramePost (cfgs 0) (fun c => rdats m c) (V m) r ∧ r.2.sem = fun _ => 0) :=
  Pipeline.RDat.θ_run_frame_track cfgs (0 : Fin 1) launch0 defs₀ Variants.none (fun c => rdats m c) m ρ main
    (hbody := fun c => body_obligation m c) (hshare := fun c => (rdats m c).share_full fun _ => rfl)
    (howed := fun _ _ => rfl) (V := V m) (hmain := hmain m Variants.none) (hA := fun _ _ => rfl)
    (hin := fun _ => .rfl) (hout := hout m) (Q' := _) (hQ' := fun _ h => h)

/-- The argument arrays end as they began. -/
theorem args_of_post {r : PUnit × MemSt nD τ sig (Elt F)} (h : Pipeline.RDat.FramePost (cfgs 0) (fun c => rdats m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 1 rfl).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 0 rfl).trans (V_main_arg6 m c)⟩

/-- The frame: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_of_post m h.1, h.2⟩) (run_main m ρ)

end Cert.KernelIdeal.Gen

end
-- ==== Proof.KFrame.lean ====
/- The frame of the kernel as printed. Its idealization is the same text, so the two statements are one: the frame of
   KDat, which holds at every reading of floats, is the kernel's too. -/
module

public import proofs.«01_k».proof.Kernel
public import proofs.«01_k».proof.Proof.Gen.Kernel
public import proofs.«01_k».proof.Proof.KDat
public import Idealize.ShloMosaic.Lib.Tactic
public import Idealize.ShloMosaic.PureOps.BitExact

@[expose] public section

noncomputable section

namespace Cert.Kernel.Gen

open Idealize.ShloMosaic Idealize.ShloMosaic.TcCoe Idealize.ShloMosaic.Tactic Idealize.SL.Sem

/-- The statement of the frame for the kernel as printed. -/
def FrameStmt : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Cert.Kernel.Gen

namespace Cert.KernelIdeal.Gen

open Idealize.ShloMosaic Idealize.ShloMosaic.TcCoe Idealize.SL.Sem

/-- The same statement for the idealization's text. -/
def FrameStmt : Prop := ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Cert.KernelIdeal.Gen

namespace Cert.Kernel.Gen

open Idealize.ShloMosaic Idealize.ShloMosaic.TcCoe Idealize.ShloMosaic.Tactic Idealize.SL.Sem

theorem stmt_eq : Cert.Kernel.Gen.FrameStmt = Cert.KernelIdeal.Gen.FrameStmt := by sl_kernel_rfl

theorem frame : FrameStmt := stmt_eq.mpr fun m ρ => Cert.KernelIdeal.Gen.frame m ρ

end Cert.Kernel.Gen

end
-- ==== Proof.IScale.lean ====
/- The power-of-two scale of a quantized row, on extended reals: the kernel reads the exponent field of a nonnegative
   number by counting the powers of two up to it and builds the scale and its reciprocal from that field; the reference
   takes the least power of two above the number and divides. Both give the same numbers. -/
module

public import Idealize.ShloMosaic.Lib.Pointwise

@[expose] public section

set_option maxRecDepth 16384

noncomputable section

namespace Cert.Scale

open Idealize.ShloMosaic

/-- The number whose binary32 word has exponent field `k` and nothing else. -/
def bp (k : ℕ) : EReal := Ideal.ofBits .f32 (IntOp.shli ArithUnit.vector (BitVec.ofNat 32 k) 23#32)

/-- The largest `k` with `bp k ≤ y`, as the kernel finds it. -/
def fld (y : EReal) : BitVec 32 :=
  Finset.fold IntOp.maxsi (2147483648#32)
    (fun x : Fin 256 => if Ideal.ofBits FTy.f32 (IntOp.shli ArithUnit.vector (BitVec.ofNat 32 ↑x) 23#32) ≤ y then BitVec.ofNat 32 ↑x else 0#32)
    Finset.univ

/-- The kernel's reciprocal scale from the field. -/
def kInvF (f : BitVec 32) : EReal :=
  Ideal.ofBits FTy.f32 (IntOp.shli ArithUnit.vector
    (Scalar.select (IntOp.ori (IntOp.cmpi CmpIPredicate.eq f 0#32) (IntOp.cmpi CmpIPredicate.eq f 255#32)) (127#32)
      (IntOp.maxsi (IntOp.subi (253#32) f) 0#32)) 23#32)

/-- The kernel's scale from the field. -/
def kScaleF (f : BitVec 32) : EReal :=
  Ideal.ofBits FTy.f32 (IntOp.shli ArithUnit.vector
    (Scalar.select (IntOp.ori (IntOp.cmpi CmpIPredicate.eq f 0#32) (IntOp.cmpi CmpIPredicate.eq f 255#32)) (127#32)
      (IntOp.minsi (IntOp.addi f 1#32) 255#32)) 23#32)

/-- The reference's `x`-th power of two. -/
def pw (x : ℕ) : EReal :=
  Ideal.exp2 (FloatOps.sitofp (F := Ideal) FTy.f32 (BitVec.ofNat 32 x) - Ideal.ofBits FTy.f32 1123680256#32)

/-- The reference's scale: the least power of two above `y`. -/
def rScale (y : EReal) : EReal :=
  Scalar.select
    (IntOp.ori (BitVec.ofBool (decide (y < Ideal.ofBits FTy.f32 8388608#32)))
      (BitVec.ofBool (decide (y = Ideal.ofBits FTy.f32 2139095040#32))))
    1
    (Finset.fold min (Ideal.ofBits FTy.f32 2139095040#32)
      (fun x : Fin 253 => if y < pw x then pw x else Ideal.ofBits FTy.f32 2139095040#32) Finset.univ)

/-- The reference's reciprocal: subnormal results are zero. -/
def rInv (s : EReal) : EReal :=
  if Ideal.div 1 s < Ideal.ofBits FTy.f32 8388608#32 then 0 else Ideal.div 1 s

theorem fields (k : Fin 256) :
    (IntOp.shli ArithUnit.vector (BitVec.ofNat 32 k.val) 23#32).extractLsb' 31 1 = 0#1 ∧
    ((IntOp.shli ArithUnit.vector (BitVec.ofNat 32 k.val) 23#32).extractLsb' 23 8).toNat = k.val ∧
    ((IntOp.shli ArithUnit.vector (BitVec.ofNat 32 k.val) 23#32).extractLsb' 0 23).toNat = 0 := by
  revert k; decide +kernel

theorem bp_zero : bp 0 = 0 := by
  obtain ⟨h1, h2, h3⟩ := fields ⟨0, by omega⟩
  simp only at h1 h2 h3
  simp [bp, Ideal.ofBits, Ideal.ieee, h1, h2, h3]

theorem bp_top : bp 255 = ⊤ := by
  obtain ⟨h1, h2, h3⟩ := fields ⟨255, by omega⟩
  simp only at h1 h2 h3
  simp [bp, Ideal.ofBits, Ideal.ieee, h1, h2, h3]

theorem bp_mid (k : ℕ) (h0 : 1 ≤ k) (h : k ≤ 254) : bp k = (((2 : ℝ) ^ ((k : ℤ) - 127) : ℝ) : EReal) := by
  obtain ⟨h1, h2, h3⟩ := fields ⟨k, by omega⟩
  simp only at h1 h2 h3
  simp only [bp, Ideal.ofBits, Ideal.ieee, h1, h2, h3]
  rw [if_neg (by omega), if_neg (by omega)]
  norm_num
  rw [show ((8388608 : ℝ)) = (2 : ℝ) ^ (23 : ℤ) by norm_num, ← EReal.coe_mul, ← zpow_add₀ (by norm_num),
    show (23 : ℤ) + ((k : ℤ) - 127 - 23) = (k : ℤ) - 127 by ring]

theorem bp_nonneg (k : ℕ) (h : k < 256) : 0 ≤ bp k := by
  rcases Nat.eq_zero_or_pos k with rfl | h0
  · rw [bp_zero]
  · rcases Nat.lt_or_ge k 255 with h1 | h1
    · rw [bp_mid k h0 (by omega)]
      exact EReal.coe_nonneg.mpr (zpow_pos (by norm_num) _).le
    · obtain rfl : k = 255 := by omega
      rw [bp_top]; exact le_top

theorem bp_strict (k l : ℕ) (hl : l < 256) (hkl : k < l) : bp k < bp l := by
  rcases Nat.lt_or_ge l 255 with h1 | h1
  · rw [bp_mid l (by omega) (by omega)]
    rcases Nat.eq_zero_or_pos k with rfl | h0
    · rw [bp_zero]; exact EReal.coe_pos.mpr (zpow_pos (by norm_num : (0:ℝ) < 2) _)
    · rw [bp_mid k h0 (by omega)]
      exact EReal.coe_lt_coe_iff.mpr (zpow_lt_zpow_right₀ (by norm_num : (1:ℝ) < 2) (by omega))
  · obtain rfl : l = 255 := by omega
    rw [bp_top]
    rcases Nat.eq_zero_or_pos k with rfl | h0
    · rw [bp_zero]; exact EReal.zero_lt_top
    · rw [bp_mid k h0 (by omega)]; exact EReal.coe_lt_top _

theorem bp_mono (k l : ℕ) (hl : l < 256) (hkl : k ≤ l) : bp k ≤ bp l := by
  rcases Nat.eq_or_lt_of_le hkl with rfl | h
  · exact le_rfl
  · exact (bp_strict k l hl h).le

theorem bp_one_eq : Ideal.ofBits FTy.f32 8388608#32 = bp 1 := by
  show Ideal.ofBits FTy.f32 8388608#32 = Ideal.ofBits FTy.f32 _
  congr 1

theorem bp_top_eq : Ideal.ofBits FTy.f32 2139095040#32 = bp 255 := by
  show Ideal.ofBits FTy.f32 2139095040#32 = Ideal.ofBits FTy.f32 _
  congr 1

theorem bp_127 : bp 127 = 1 := by
  rw [bp_mid 127 (by omega) (by omega)]; norm_num

/-- What the field is: the largest `n` below 256 with `bp n ≤ y`. -/
theorem fld_spec (y : EReal) (hy : 0 ≤ y) :
    ∃ n : ℕ, n < 256 ∧ fld y = BitVec.ofNat 32 n ∧ bp n ≤ y ∧ ∀ k, k < 256 → bp k ≤ y → k ≤ n := by
  have hom : (fld y).toInt = Finset.fold max (-2147483648 : ℤ)
      (fun x : Fin 256 => if bp x ≤ y then (x.val : ℤ) else 0) Finset.univ := by
    unfold fld
    have hi : (2147483648#32 : BitVec 32).toInt = -2147483648 := by decide
    rw [← hi, ← Finset.fold_hom (op := IntOp.maxsi) (op' := max) (m := fun b : BitVec 32 => b.toInt)]
    · congr 1
      funext x
      unfold bp
      split
      · have : ∀ x : Fin 256, (BitVec.ofNat 32 x.val).toInt = (x.val : ℤ) := by decide +kernel
        exact this x
      · rfl
    · intro a b
      show (IntOp.maxsi a b).toInt = _
      unfold IntOp.maxsi
      simp only [BitVec.slt, decide_eq_true_eq]
      split <;> omega
  set z := (fld y).toInt with hz
  have hle : ∀ k, k < 256 → bp k ≤ y → (k : ℤ) ≤ z := by
    intro k hk hb
    rw [hom, Finset.le_fold_max]
    exact Or.inr ⟨⟨k, hk⟩, Finset.mem_univ _, by simp [hb]⟩
  have h0 : (0 : ℤ) ≤ z := by exact_mod_cast hle 0 (by omega) (by rw [bp_zero]; exact hy)
  have hz' := hom.le
  rw [Finset.le_fold_max] at hz'
  rcases hz' with h | ⟨x, _, hx⟩
  · omega
  · refine ⟨z.toNat, ?_, ?_, ?_, ?_⟩
    · have := x.isLt
      split at hx <;> omega
    · apply BitVec.eq_of_toInt_eq
      rw [← hz]
      have : ∀ x : Fin 256, (BitVec.ofNat 32 x.val).toInt = (x.val : ℤ) := by decide +kernel
      have hlt : z.toNat < 256 := by
        have := x.isLt
        split at hx <;> omega
      rw [this ⟨z.toNat, hlt⟩]
      simp only
      omega
    · split at hx
      · next hb => exact (bp_mono _ _ x.isLt (by omega)).trans hb
      · obtain h : z.toNat = 0 := by omega
        rw [h, bp_zero]; exact hy
    · intro k hk hb
      have := hle k hk hb
      omega

theorem kScaleF_eq (n : ℕ) (h : n < 256) : kScaleF (BitVec.ofNat 32 n) = bp (if n = 0 ∨ n = 255 then 127 else n + 1) := by
  have key : ∀ n : Fin 256, (Scalar.select (IntOp.ori (IntOp.cmpi CmpIPredicate.eq (BitVec.ofNat 32 n.val) 0#32) (IntOp.cmpi CmpIPredicate.eq (BitVec.ofNat 32 n.val) 255#32)) (127#32)
      (IntOp.minsi (IntOp.addi (BitVec.ofNat 32 n.val) 1#32) 255#32)) = BitVec.ofNat 32 (if n.val = 0 ∨ n.val = 255 then 127 else n.val + 1) := by
    decide +kernel
  unfold kScaleF bp
  rw [key ⟨n, h⟩]

theorem kInvF_eq (n : ℕ) (h : n < 256) : kInvF (BitVec.ofNat 32 n) = bp (if n = 0 ∨ n = 255 then 127 else 253 - n) := by
  have key : ∀ n : Fin 256, (Scalar.select (IntOp.ori (IntOp.cmpi CmpIPredicate.eq (BitVec.ofNat 32 n.val) 0#32) (IntOp.cmpi CmpIPredicate.eq (BitVec.ofNat 32 n.val) 255#32)) (127#32)
      (IntOp.maxsi (IntOp.subi (253#32) (BitVec.ofNat 32 n.val)) 0#32)) = BitVec.ofNat 32 (if n.val = 0 ∨ n.val = 255 then 127 else 253 - n.val) := by
    decide +kernel
  unfold kInvF bp
  rw [key ⟨n, h⟩]

theorem pw_eq (x : ℕ) (h : x < 253) : pw x = bp (x + 2) := by
  rw [bp_mid (x + 2) (by omega) (by omega)]
  unfold pw
  have h1 : Ideal.ofBits FTy.f32 1123680256#32 = ((125 : ℝ) : EReal) := by
    simp [Ideal.ofBits, Ideal.ieee]
    norm_num
    rw [← EReal.coe_mul]
    norm_num
  have h2 : FloatOps.sitofp (F := Ideal) FTy.f32 (BitVec.ofNat 32 x) = ((x : ℝ) : EReal) := by
    have : ∀ x : Fin 253, (BitVec.ofNat 32 x.val).toInt = (x.val : ℤ) := by decide +kernel
    show (((BitVec.ofNat 32 x).toInt : ℝ) : EReal) = _
    rw [this ⟨x, h⟩]; simp
  rw [h1, h2, ← EReal.coe_sub, Ideal.exp2_coe]
  congr 1
  show (2 : ℝ) ^ ((x : ℝ) - 125) = _
  rw [← Real.rpow_intCast]
  congr 1
  push_cast
  ring

/-- THE SCALES AGREE. -/
theorem scale_eq (y : EReal) (hy : 0 ≤ y) : kScaleF (fld y) = rScale y := by
  obtain ⟨n, hn, hf, hle, hmax⟩ := fld_spec y hy
  rw [hf, kScaleF_eq n hn]
  have hlt : ∀ k, n < k → k < 256 → y < bp k := fun k h1 h2 => by
    by_contra h
    have := hmax k h2 (not_lt.mp h)
    omega
  unfold rScale
  rw [bp_one_eq, bp_top_eq]
  rcases Nat.eq_zero_or_pos n with rfl | h0
  · have : y < bp 1 := hlt 1 (by omega) (by omega)
    have e : ∀ b : Bool, IntOp.ori (BitVec.ofBool true) (BitVec.ofBool b) = 1#1 := by decide
    simp only [this, decide_true, e]
    exact bp_127
  rcases Nat.lt_or_ge n 255 with h1 | h1
  · have c1 : ¬ y < bp 1 := not_lt.mpr ((bp_mono 1 n hn h0).trans hle)
    have c2 : ¬ y = bp 255 := (hlt 255 h1 (by omega)).ne
    have e : Scalar.select (IntOp.ori (BitVec.ofBool (decide (y < bp 1))) (BitVec.ofBool (decide (y = bp 255)))) (1 : EReal)
        (Finset.fold min (bp 255) (fun x : Fin 253 => if y < pw x then pw x else bp 255) Finset.univ)
        = Finset.fold min (bp 255) (fun x : Fin 253 => if y < pw x then pw x else bp 255) Finset.univ := by
      simp [c1, c2, Scalar.select, IntOp.ori]
    rw [e, if_neg (by omega)]
    apply le_antisymm
    · rw [Finset.le_fold_min]
      refine ⟨bp_mono _ _ (by omega) (by omega), fun x _ => ?_⟩
      have hx := x.isLt
      split
      · next h =>
        rw [pw_eq x hx] at h ⊢
        apply bp_mono _ _ (by omega)
        by_contra hc
        exact absurd h (not_lt.mpr ((bp_mono _ n hn (by omega)).trans hle))
      · exact bp_mono _ _ (by omega) (by omega)
    · rw [Finset.fold_min_le]
      rcases Nat.lt_or_ge n 254 with h2 | h2
      · right
        refine ⟨⟨n - 1, by omega⟩, Finset.mem_univ _, ?_⟩
        have e1 : pw ((⟨n - 1, by omega⟩ : Fin 253) : ℕ) = bp (n + 1) := by
          rw [pw_eq _ (by simp only; omega)]
          simp only
          congr 1; omega
        rw [e1, if_pos (hlt (n + 1) (by omega) (by omega))]
      · left
        obtain rfl : n = 254 := by omega
        exact le_rfl
  · obtain rfl : n = 255 := by omega
    have : y = bp 255 := by
      rw [bp_top] at hle ⊢
      exact top_le_iff.mp hle
    have e : ∀ b : Bool, IntOp.ori (BitVec.ofBool b) (BitVec.ofBool true) = 1#1 := by decide
    simp only [this, decide_true, e]
    exact bp_127

/-- THE RECIPROCALS AGREE. -/
theorem inv_eq (y : EReal) (hy : 0 ≤ y) : kInvF (fld y) = rInv (rScale y) := by
  rw [← scale_eq y hy]
  obtain ⟨n, hn, hf, -, -⟩ := fld_spec y hy
  rw [hf, kInvF_eq n hn, kScaleF_eq n hn]
  unfold rInv
  rw [bp_one_eq]
  have l1 : bp 1 ≤ 1 := by rw [← bp_127]; exact bp_mono _ _ (by omega) (by omega)
  by_cases h : n = 0 ∨ n = 255
  · rw [if_pos h, if_pos h, bp_127]
    have : Ideal.div 1 1 = 1 := by simp [Ideal.div]
    rw [this, if_neg (not_lt.mpr l1)]
  · rw [if_neg h, if_neg h]
    rcases Nat.lt_or_ge n 254 with h1 | h1
    · have e : Ideal.div 1 (bp (n + 1)) = (((2 : ℝ) ^ ((126 : ℤ) - n) : ℝ) : EReal) := by
        rw [bp_mid (n + 1) (by omega) (by omega)]
        unfold Ideal.div
        rw [if_neg (by
          have := zpow_pos (by norm_num : (0:ℝ) < 2) (((n + 1 : ℕ) : ℤ) - 127)
          exact_mod_cast this.ne'), one_mul, ← EReal.coe_inv, ← zpow_neg]
        congr 2
        push_cast; ring
      rw [e]
      rcases Nat.lt_or_ge n 253 with h2 | h2
      · have e2 : bp (253 - n) = (((2 : ℝ) ^ ((126 : ℤ) - n) : ℝ) : EReal) := by
          rw [bp_mid (253 - n) (by omega) (by omega)]
          congr 2
          omega
        rw [← e2, if_neg (not_lt.mpr (bp_mono _ _ (by omega) (by omega)))]
      · obtain rfl : n = 253 := by omega
        rw [if_pos, bp_zero]
        rw [bp_mid 1 (by omega) (by omega)]
        exact EReal.coe_lt_coe_iff.mpr (zpow_lt_zpow_right₀ (by norm_num : (1:ℝ) < 2) (by norm_num))
    · obtain rfl : n = 254 := by omega
      have : Ideal.div 1 (bp 255) = 0 := by
        rw [bp_top]; simp [Ideal.div]
      rw [this, if_pos, bp_zero]
      rw [← bp_zero]; exact bp_strict _ _ (by omega) (by omega)

/-- The scale is finite and nonnegative, or the reciprocal is zero. -/
theorem scale_cases (y : EReal) (hy : 0 ≤ y) :
    0 ≤ rScale y ∧ (rScale y = ⊤ → rInv (rScale y) = 0) := by
  obtain ⟨n, hn, hf, -, -⟩ := fld_spec y hy
  constructor
  · rw [← scale_eq y hy, hf, kScaleF_eq n hn]
    apply bp_nonneg
    split <;> omega
  · intro h
    rw [h, rInv, bp_one_eq]
    have : Ideal.div 1 ⊤ = 0 := by simp [Ideal.div]
    rw [this, if_pos]
    rw [← bp_zero]; exact bp_strict _ _ (by omega) (by omega)

end Cert.Scale
-- ==== Proof.IMath.lean ====
/- The eight results as functions of the arguments, element by element, on extended reals. -/
module

public import proofs.«01_k».proof.Proof.IScale

@[expose] public section

noncomputable section

namespace Cert.Scale

open Idealize.ShloMosaic

/-- The seven arguments, read element by element. -/
structure Args where
  x : Fin 12 → Fin 4096 → Fin 2432 → EReal
  w : Fin 2432 → Fin 64 → EReal
  ws : Fin 64 → EReal
  b : Fin 64 → EReal
  x0 : Fin 12 → Fin 4096 → Fin 64 → EReal
  nz : Fin 12 → Fin 4096 → Fin 64 → EReal
  lw : Fin 12 → EReal

namespace Args

variable (A : Args)

/-- The scale of a row of `x` is taken of this number. -/
def YH (b : Fin 12) (s : Fin 4096) : EReal :=
  Finset.fold max (Ideal.ofBits FTy.f32 0xFF800000#32) (fun d => max (A.x b s d) (-(A.x b s d))) Finset.univ
    * Ideal.ofBits FTy.f32 0x3B124925#32

def HS (b : Fin 12) (s : Fin 4096) : EReal := rScale (A.YH b s)

def H (b : Fin 12) (s : Fin 4096) (d : Fin 2432) : EReal :=
  min (Ideal.ofBits FTy.f32 0x43E00000#32) (max (Ideal.ofBits FTy.f32 0xC3E00000#32) (A.x b s d * rInv (A.HS b s)))

def P (b : Fin 12) (s : Fin 4096) (p : Fin 64) : EReal :=
  (∑ d, A.H b s d * A.w d p) * A.HS b s * A.ws p + A.b p

def D (b : Fin 12) (s : Fin 4096) (p : Fin 64) : EReal := A.P b s p - (A.nz b s p - A.x0 b s p)

def G (b : Fin 12) (s : Fin 4096) (p : Fin 64) : EReal := A.D b s p * (A.lw b * Ideal.ofBits FTy.f32 0x352AAAAB#32)

/-- The scale of a row of the gradient is taken of this number. -/
def YG (b : Fin 12) (s : Fin 4096) : EReal :=
  Finset.fold max (Ideal.ofBits FTy.f32 0xFF800000#32) (fun p => max (A.G b s p) (-(A.G b s p))) Finset.univ
    * Ideal.ofBits FTy.f32 0x37924925#32

def DS (b : Fin 12) (s : Fin 4096) : EReal := rScale (A.YG b s)

def DV (b : Fin 12) (s : Fin 4096) (p : Fin 64) : EReal :=
  min (Ideal.ofBits FTy.f32 0x47600000#32) (max (Ideal.ofBits FTy.f32 0xC7600000#32) (A.G b s p * rInv (A.DS b s)))

def DH (b : Fin 12) (s : Fin 4096) (d : Fin 2432) : EReal :=
  (∑ p, A.DV b s p * (A.w d p * A.ws p)) * A.DS b s

def DW (p : Fin 64) (d : Fin 2432) : EReal :=
  ∑ b, ∑ s, A.H b s d * A.HS b s * (A.DV b s p * A.DS b s)

def LO (b : Fin 12) : EReal :=
  A.lw b * Ideal.div (∑ s, ∑ p, A.D b s p * A.D b s p) (Ideal.ofBits FTy.f32 0x48800000#32)

/-- A constant of either scale is a nonnegative number. -/
theorem YH_nonneg (b : Fin 12) (s : Fin 4096) : 0 ≤ A.YH b s := by
  unfold YH
  apply mul_nonneg
  · rw [Finset.le_fold_max]
    refine Or.inr ⟨0, Finset.mem_univ _, ?_⟩
    rw [le_max_iff]
    rcases le_total 0 (A.x b s 0) with h | h
    · exact Or.inl h
    · exact Or.inr (EReal.neg_nonneg.mpr h)
  · simp [Ideal.ofBits, Ideal.ieee]
    apply mul_nonneg
    · exact_mod_cast Nat.zero_le _
    · exact EReal.coe_nonneg.mpr (by positivity)

theorem YG_nonneg (b : Fin 12) (s : Fin 4096) : 0 ≤ A.YG b s := by
  unfold YG
  apply mul_nonneg
  · rw [Finset.le_fold_max]
    refine Or.inr ⟨0, Finset.mem_univ _, ?_⟩
    rw [le_max_iff]
    rcases le_total 0 (A.G b s 0) with h | h
    · exact Or.inl h
    · exact Or.inr (EReal.neg_nonneg.mpr h)
  · simp [Ideal.ofBits, Ideal.ieee]
    apply mul_nonneg
    · exact_mod_cast Nat.zero_le _
    · exact EReal.coe_nonneg.mpr (by positivity)

/-- The scale of a gradient's row may be taken out of the sum: where it is infinite every code of the row is zero. -/
theorem DH_eq (b : Fin 12) (s : Fin 4096) (d : Fin 2432) :
    (∑ p, A.DV b s p * A.DS b s * (A.w d p * A.ws p)) = A.DH b s d := by
  obtain ⟨h0, ht⟩ := scale_cases (A.YG b s) (A.YG_nonneg b s)
  unfold DH
  by_cases h : A.DS b s = ⊤
  · have hz : ∀ p, A.DV b s p = 0 := fun p => by
      unfold DV
      rw [show rInv (A.DS b s) = 0 from ht h, mul_zero]
      have h1 : (0 : EReal) ≤ Ideal.ofBits FTy.f32 0x47600000#32 := by
        simp [Ideal.ofBits, Ideal.ieee]
        exact_mod_cast (by positivity)
      have h2 : Ideal.ofBits FTy.f32 0xC7600000#32 ≤ (0 : EReal) := by
        simp [Ideal.ofBits, Ideal.ieee]
        exact_mod_cast (by positivity)
      rw [max_eq_right h2, min_eq_right h1]
    simp only [hz, zero_mul, Finset.sum_const_zero]
  · have hs : ∀ T : Finset (Fin 64), (∑ p ∈ T, A.DV b s p * A.DS b s * (A.w d p * A.ws p))
        = (∑ p ∈ T, A.DV b s p * (A.w d p * A.ws p)) * A.DS b s := fun T => by
      induction T using Finset.induction_on with
      | empty => simp
      | insert a T ha ih =>
        rw [Finset.sum_insert ha, Finset.sum_insert ha, ih, EReal.right_distrib_of_nonneg_of_ne_top (show 0 ≤ A.DS b s from h0) h]
        exact congrArg (· + _) (mul_right_comm _ _ _)
    exact hs Finset.univ

end Args

/-- Seven arrays as the arguments. -/
def argsOf (a0 : Vec Ideal (⟨3, ![12, 4096, 2432]⟩ : Shape) .bf16) (a1 : Vec Ideal (⟨2, ![2432, 64]⟩ : Shape) .fp8e4m3)
    (a2 a3 : Vec Ideal (⟨1, ![64]⟩ : Shape) .f32) (a4 a5 : Vec Ideal (⟨3, ![12, 4096, 64]⟩ : Shape) .bf16)
    (a6 : Vec Ideal (⟨1, ![12]⟩ : Shape) .f32) : Args where
  x b s d := a0 (ix3 b s d)
  w d p := a1 (ix2 d p)
  ws p := a2 (ix1 p)
  b p := a3 (ix1 p)
  x0 b s p := a4 (ix3 b s p)
  nz b s p := a5 (ix3 b s p)
  lw b := a6 (ix1 b)

end Cert.Scale
-- ==== Proof.IKern.lean ====
/- The kernel's values at one grid point read at an index: the functions of the arguments of IMath, at the rows the
   point's blocks hold. -/
module

public import Idealize.ShloMosaic.Lib.Pointwise
public import proofs.«01_k».proof.Proof.KVals
public import proofs.«01_k».proof.Proof.IMath

@[expose] public section

set_option maxRecDepth 16384

noncomputable section

namespace Cert.KernelIdeal.Gen

open Idealize.ShloMosaic

theorem select_ofBool (p : Prop) [Decidable p] (a b : BitVec 32) :
    Scalar.select (BitVec.ofBool (decide p)) a b = if p then a else b := by
  by_cases h : p <;> simp [Scalar.select, h]

/-- The largest magnitude starts from the least number in either format. -/
theorem bot_bits : Ideal.ofBits FTy.bf16 65408#16 = Ideal.ofBits FTy.f32 0xFF800000#32 := by
  simp [Ideal.ofBits, Ideal.ieee]

/-! ### One slab -/

theorem am_read (v : Vec Ideal S1x32x2432 .bf16) (r : Fin 32) (l : Fin 128) : am v (ix2 r l)
    = Finset.fold max (Ideal.ofBits FTy.f32 0xFF800000#32) (fun d => max (v (ix3 0 r d)) (-(v (ix3 0 r d)))) Finset.univ := by
  rw [← bot_bits]
  unfold am
  pointwise [k0_pay9, k0_pay6, k0_pay5]
  rfl

theorem hq_read (v : Vec Ideal S1x32x2432 .bf16) (r : Fin 32) (d : Fin 2432) : hq v (ix3 0 r d)
    = min (Ideal.ofBits FTy.f32 0x43E00000#32) (max (Ideal.ofBits FTy.f32 0xC3E00000#32)
      (v (ix3 0 r d) * Scale.kInvF (Scale.fld (
        Finset.fold max (Ideal.ofBits FTy.f32 0xFF800000#32) (fun d => max (v (ix3 0 r d)) (-(v (ix3 0 r d)))) Finset.univ
          * Ideal.ofBits FTy.f32 0x3B124925#32)))) := by
  rw [← bot_bits]
  unfold hq
  pointwise [k0_pay8, k0_pay7, k0_pay6, k0_pay5]
  rfl

/-! ### One block -/

theorem HB_read (x : Vec Ideal S1x512x2432 .bf16) (r : Fin 512) (d : Fin 2432) : HB x (ix3 0 r d)
    = min (Ideal.ofBits FTy.f32 0x43E00000#32) (max (Ideal.ofBits FTy.f32 0xC3E00000#32)
      (x (ix3 0 r d) * Scale.kInvF (Scale.fld (
        Finset.fold max (Ideal.ofBits FTy.f32 0xFF800000#32) (fun d => max (x (ix3 0 r d)) (-(x (ix3 0 r d)))) Finset.univ
          * Ideal.ofBits FTy.f32 0x3B124925#32)))) := by
  have hs : ∀ d' : Fin 2432, slab x (r.val / 32) (ix3 0 (⟨r.val % 32, Nat.mod_lt _ (by decide)⟩ : Fin 32) d') = x (ix3 0 r d') := fun d' => by
    unfold slab
    refine congrArg x (funext fun a => Fin.ext ?_)
    match a with
    | ⟨0, _⟩ => rfl
    | ⟨1, _⟩ => have := r.isLt; show (32 * (r.val / 32) + r.val % 32) % 512 = r.val; omega
    | ⟨2, _⟩ => rfl
  have he : HB x (ix3 0 r d) = hq (slab x (r.val / 32)) (ix3 0 (⟨r.val % 32, Nat.mod_lt _ (by decide)⟩ : Fin 32) d) := by
    unfold HB
    refine congrArg (hq (slab x (r.val / 32))) (funext fun a => Fin.ext ?_)
    match a with
    | ⟨0, _⟩ => rfl
    | ⟨1, _⟩ => rfl
    | ⟨2, _⟩ => rfl
  rw [he, hq_read]
  simp only [hs]

theorem AM_read (x : Vec Ideal S1x512x2432 .bf16) (r : Fin 512) (l : Fin 128) : AM x (ix2 r l)
    = Finset.fold max (Ideal.ofBits FTy.f32 0xFF800000#32) (fun d => max (x (ix3 0 r d)) (-(x (ix3 0 r d)))) Finset.univ := by
  have hs : ∀ d' : Fin 2432, slab x (r.val / 32) (ix3 0 (⟨r.val % 32, Nat.mod_lt _ (by decide)⟩ : Fin 32) d') = x (ix3 0 r d') := fun d' => by
    unfold slab
    refine congrArg x (funext fun a => Fin.ext ?_)
    match a with
    | ⟨0, _⟩ => rfl
    | ⟨1, _⟩ => have := r.isLt; show (32 * (r.val / 32) + r.val % 32) % 512 = r.val; omega
    | ⟨2, _⟩ => rfl
  have he : AM x (ix2 r l) = am (slab x (r.val / 32)) (ix2 (⟨r.val % 32, Nat.mod_lt _ (by decide)⟩ : Fin 32) l) := by
    unfold AM
    refine congrArg (am (slab x (r.val / 32))) (funext fun a => Fin.ext ?_)
    match a with
    | ⟨0, _⟩ => rfl
    | ⟨1, _⟩ => rfl
  rw [he, am_read]
  simp only [hs]

theorem HQ_read (x : Vec Ideal S1x512x2432 .bf16) (r : Fin 512) (d : Fin 2432) : HQ x (ix2 r d) = HB x (ix3 0 r d) := by
  unfold HQ
  generalize HB x = v
  pointwise [k0_pay94]

theorem IO_read (k : Fin 256) (r : Fin 512) : IO (ix2 k r) = BitVec.ofNat 32 k.val := by
  unfold IO
  pointwise

theorem pay95_read (v : FVec Ideal S512x128 .f32) (k : Fin 256) (r : Fin 512) : k0_pay95 (F := Ideal) v (ix2 k r)
    = BitVec.ofBool (decide (Ideal.ofBits FTy.f32 (IntOp.shli ArithUnit.vector (BitVec.ofNat 32 ↑k) 23#32) ≤
          v (ix2 r 0) * Ideal.ofBits FTy.f32 0x3B124925#32)) := by
  pointwise [k0_pay95]

theorem pay96_read (v812 : IVec S256x512 32) (v817 : IVec S256x512 1) (r : Fin 512) : k0_pay96 (F := Ideal) v812 v817 0#32 (ix2 0 r)
    = Scale.kScaleF (Finset.fold IntOp.maxsi (2147483648#32) (fun x => Scalar.select (v817 (ix2 x r)) (v812 (ix2 x r)) 0#32) Finset.univ) := by
  pointwise [k0_pay96]
  rfl

theorem HS_read (x : Vec Ideal S1x512x2432 .bf16) (r : Fin 512) : HS x (ix2 0 r)
    = Scale.kScaleF (Scale.fld (
        Finset.fold max (Ideal.ofBits FTy.f32 0xFF800000#32) (fun d => max (x (ix3 0 r d)) (-(x (ix3 0 r d)))) Finset.univ
          * Ideal.ofBits FTy.f32 0x3B124925#32)) := by
  unfold HS
  rw [pay96_read]
  simp only [pay95_read, IO_read, AM_read, select_ofBool]
  rfl

theorem pay97_read (v806 : FVec Ideal S512x2432 .fp8e4m3) (v812 : IVec S256x512 32) (v817 : IVec S256x512 1) (x2 : Vec Ideal S64x2432 .fp8e4m3) (x3 x4 : Vec Ideal S64x1 .f32)
    (p : Fin 64) (r : Fin 512) : k0_pay97 (F := Ideal) v806 v812 v817 0#32 x2 x3 x4 (ix2 p r)
      = (∑ d, x2 (ix2 p d) * v806 (ix2 r d)) * k0_pay96 (F := Ideal) v812 v817 0#32 (ix2 0 r) * x3 (ix2 p 0) + x4 (ix2 p 0) := by
  pointwise [k0_pay97]

theorem pay98_read (v806 : FVec Ideal S512x2432 .fp8e4m3) (v812 : IVec S256x512 32) (v817 : IVec S256x512 1) (x2 : Vec Ideal S64x2432 .fp8e4m3) (x3 x4 : Vec Ideal S64x1 .f32)
    (p : Fin 64) (r : Fin 512) : k0_pay98 (F := Ideal) v806 v812 v817 0#32 x2 x3 x4 (ix3 0 p r)
      = k0_pay97 (F := Ideal) v806 v812 v817 0#32 x2 x3 x4 (ix2 p r) := by
  pointwise [k0_pay98]

theorem pay99_read (v : FVec Ideal S64x512 .f32) (x6 x5 : Vec Ideal S1x64x512 .bf16) (p : Fin 64) (r : Fin 512) :
    k0_pay99 (F := Ideal) v x6 x5 (ix2 p r) = v (ix2 p r) - (x6 (ix3 0 p r) - x5 (ix3 0 p r)) := by
  pointwise [k0_pay99]

theorem pay100_read (v : FVec Ideal S64x512 .f32) (x6 x5 : Vec Ideal S1x64x512 .bf16) (p : Fin 64) (r : Fin 512) :
    k0_pay100 (F := Ideal) v x6 x5 (ix2 p r) = k0_pay99 (F := Ideal) v x6 x5 (ix2 p r) * k0_pay99 (F := Ideal) v x6 x5 (ix2 p r) := by
  pointwise [k0_pay100]

theorem pay101_read (v : FVec Ideal S64x512 .f32) (x6 x5 : Vec Ideal S1x64x512 .bf16) (l : Elt Ideal .f32) (p : Fin 64) (r : Fin 512) :
    k0_pay101 (F := Ideal) v x6 x5 l (ix2 p r) = k0_pay99 (F := Ideal) v x6 x5 (ix2 p r) * (l * Ideal.ofBits FTy.f32 0x352AAAAB#32) := by
  pointwise [k0_pay101]

theorem pay102_read (v : FVec Ideal S64x512 .f32) (x6 x5 : Vec Ideal S1x64x512 .bf16) (p : Fin 64) (r : Fin 512) :
    k0_pay102 (F := Ideal) v x6 x5 (ix2 p r) = k0_pay100 (F := Ideal) v x6 x5 (ix2 p r) := by
  pointwise [k0_pay102]

theorem pay103_read (v : FVec Ideal S64x512 .f32) (x6 x5 : Vec Ideal S1x64x512 .bf16) (S : Vec Ideal S64x512 .f32) (p : Fin 64) (r : Fin 512) :
    k0_pay103 (F := Ideal) v x6 x5 S (ix2 p r) = S (ix2 p r) + k0_pay100 (F := Ideal) v x6 x5 (ix2 p r) := by
  pointwise [k0_pay103]

theorem pay104_read (l : Elt Ideal .f32) (S : Vec Ideal S64x512 .f32) :
    k0_pay104 (F := Ideal) l S = l * ((∑ p, ∑ r, S (ix2 p r)) * Ideal.ofBits FTy.f32 0x36800000#32) := by
  pointwise [k0_pay104]

/-- The exponent field of each entry. -/
def QF (v884 : FVec Ideal S1x512 .f32) : IVec S1x512 32 :=
  have v885 : IVec S256x512 32 := iota .tc S256x512 32 [0] iota_S256x512_d0_w32
  have v886 : IVec S256x512 32 := broadcast S256x512 23#32
  have v887 : IVec S256x512 32 := shli v885 v886
  have v888 : FVec Ideal S256x512 .f32 := bitcastToFloat .f32 v887
  have v889 : FVec Ideal S256x512 .f32 := broadcastTo S256x512 v884 broadcasts_S1x512_S256x512
  have v890 : IVec S256x512 1 := cmpf .ole v888 v889
  have v891 : IVec S256x512 32 := broadcast S256x512 0#32
  have v892 : IVec S256x512 32 := select v890 v885 v891
  have v893 : IVec S512 32 := multiReductionI .maxsi [0] S512 v892 2147483648#32 reduces_S256x512_S512 rfl
  shapeCast S1x512 v893 shapeCasts_S512_S1x512
/-- The numbers the fields are taken of, from the largest magnitudes. -/
def KY (v881 : FVec Ideal S512 .f32) : FVec Ideal S1x512 .f32 :=
  mulf (shapeCast S1x512 v881 shapeCasts_S512_S1x512) (broadcast S1x512 (Scalar.ofBits .f32 0x37924925#32))
theorem pay105_split (v : FVec Ideal S64x512 .f32) (x6 x5 : Vec Ideal S1x64x512 .bf16) (l : Elt Ideal .f32) :
    k0_pay105 (F := Ideal) v x6 x5 l = QF (KY (multiReduction .maximumf [0] S512 (absf (k0_pay101 (F := Ideal) v x6 x5 l)) 0xFF800000#32 reduces_S64x512_S512 (.inl rfl) rfl)) := rfl
theorem maxk (v : FVec Ideal S64x512 .f32) (r : Fin 512) :
    multiReduction .maximumf [0] S512 v 0xFF800000#32 reduces_S64x512_S512 (.inl rfl) rfl (ix1 r)
      = Finset.fold max (Ideal.ofBits FTy.f32 0xFF800000#32) (fun p => v (ix2 p r)) Finset.univ := by
  pointwise
theorem KY_read (v : FVec Ideal S512 .f32) (r : Fin 512) : KY v (ix2 0 r) = v (ix1 r) * Ideal.ofBits FTy.f32 0x37924925#32 := by
  pointwise [KY]
theorem QF_read (v : FVec Ideal S1x512 .f32) (r : Fin 512) : QF v (ix2 0 r) = Scale.fld (v (ix2 0 r)) := by
  pointwise [QF]
  rfl
theorem absk (v : FVec Ideal S64x512 .f32) (p : Fin 64) (r : Fin 512) :
    absf v (ix2 p r) = max (v (ix2 p r)) (-(v (ix2 p r))) := rfl
theorem pay105_read (v : FVec Ideal S64x512 .f32) (x6 x5 : Vec Ideal S1x64x512 .bf16) (l : Elt Ideal .f32) (r : Fin 512) :
    k0_pay105 (F := Ideal) v x6 x5 l (ix2 0 r) = Scale.fld (Finset.fold max (Ideal.ofBits FTy.f32 0xFF800000#32)
      (fun p => max (k0_pay101 (F := Ideal) v x6 x5 l (ix2 p r)) (-(k0_pay101 (F := Ideal) v x6 x5 l (ix2 p r)))) Finset.univ
        * Ideal.ofBits FTy.f32 0x37924925#32) := by
  rw [pay105_split, QF_read, KY_read, maxk]
  simp only [absk]

theorem pay108_read (e : IVec S1x512 32) (r : Fin 512) : k0_pay108 (F := Ideal) e k0_pay106 (ix2 0 r) = Scale.kScaleF (e (ix2 0 r)) := by
  pointwise [k0_pay108, k0_pay107, k0_pay106]
  rfl
theorem pay109_read (g : FVec Ideal S64x512 .f32) (e : IVec S1x512 32) (p : Fin 64) (r : Fin 512) : k0_pay109 (F := Ideal) g e k0_pay106 (ix2 p r)
    = min (Ideal.ofBits FTy.f32 0x47600000#32) (max (Ideal.ofBits FTy.f32 0xC7600000#32) (g (ix2 p r) * Scale.kInvF (e (ix2 0 r)))) := by
  pointwise [k0_pay109, k0_pay107, k0_pay106]
  rfl
theorem pay110_read (g : FVec Ideal S64x512 .f32) (e f : IVec S1x512 32) (p : Fin 64) (r : Fin 512) :
    k0_pay110 (F := Ideal) g e f (ix3 0 p r) = k0_pay109 (F := Ideal) g e f (ix2 p r) := by
  pointwise [k0_pay110]
theorem pay111_read (g : FVec Ideal S64x512 .f32) (e f : IVec S1x512 32) (p : Fin 64) (r : Fin 512) :
    k0_pay111 (F := Ideal) g e f (ix2 p r) = k0_pay109 (F := Ideal) g e f (ix2 p r) * k0_pay108 (F := Ideal) e f (ix2 0 r) := by
  pointwise [k0_pay111]
theorem pay112_read (g : FVec Ideal S64x512 .f32) (e f : IVec S1x512 32) (W : Vec Ideal S64x2432 .bf16) (r : Fin 512) (d : Fin 2432) :
    k0_pay112 (F := Ideal) g e f W (ix2 r d) = ∑ p, k0_pay111 (F := Ideal) g e f (ix2 p r) * W (ix2 p d) := by
  pointwise [k0_pay112]
theorem pay1_read (v : FVec Ideal S512x2432 .f32) (r : Fin 512) (d : Fin 2432) : k0_pay1 (F := Ideal) v (ix3 0 r d) = v (ix2 r d) := by
  pointwise [k0_pay1]
theorem pay2_read (h : FVec Ideal S512x2432 .fp8e4m3) (s : FVec Ideal S1x512 .f32) (g : FVec Ideal S64x512 .bf16) (A : Vec Ideal S64x2432 .f32) (p : Fin 64) (d : Fin 2432) :
    k0_pay2 (F := Ideal) h s g A (ix2 p d) = A (ix2 p d) + ∑ r, g (ix2 p r) * s (ix2 0 r) * h (ix2 r d) := by
  pointwise [k0_pay2]
theorem pay3_read (s : Vec Ideal S64x1 .f32) (w : Vec Ideal S64x2432 .fp8e4m3) (p : Fin 64) (d : Fin 2432) :
    k0_pay3 (F := Ideal) s w (ix2 p d) = w (ix2 p d) * s (ix2 p 0) := by
  pointwise [k0_pay3]
theorem pay4_read (p : Fin 64) (d : Fin 2432) : k0_pay4 (F := Ideal) (ix2 p d) = 0 := by
  pointwise [k0_pay4]

/-! ### The blocks of a grid point, when they hold rows `σ r` of sample `b` -/

section
variable (A : Scale.Args) (b : Fin 12) (σ : Fin 512 → Fin 4096) (i : grid0.Coords)
  (x0 : Vec Ideal S12 .f32) (x1 : Vec Ideal S1x512x2432 .bf16) (x2 : Vec Ideal S64x2432 .fp8e4m3) (x3 x4 : Vec Ideal S64x1 .f32)
  (x5 x6 : Vec Ideal S1x64x512 .bf16)

/-- The blocks hold the arguments' elements. -/
structure Reads : Prop where
  h0 : LW i x0 = A.lw b
  h1 : ∀ r d, x1 (ix3 0 r d) = A.x b (σ r) d
  h2 : ∀ p d, x2 (ix2 p d) = A.w d p
  h3 : ∀ p, x3 (ix2 p 0) = A.ws p
  h4 : ∀ p, x4 (ix2 p 0) = A.b p
  h5 : ∀ p r, x5 (ix3 0 p r) = A.x0 b (σ r) p
  h6 : ∀ p r, x6 (ix3 0 p r) = A.nz b (σ r) p

variable {A b σ i x0 x1 x2 x3 x4 x5 x6} (R : Reads A b σ i x0 x1 x2 x3 x4 x5 x6)
include R

theorem HB_at (r : Fin 512) (d : Fin 2432) : HB x1 (ix3 0 r d) = A.H b (σ r) d := by
  rw [HB_read]
  simp only [R.h1]
  rw [show (Finset.fold max (Ideal.ofBits FTy.f32 0xFF800000#32) (fun d => max (A.x b (σ r) d) (-(A.x b (σ r) d))) Finset.univ
          * Ideal.ofBits FTy.f32 0x3B124925#32) = A.YH b (σ r) from rfl, Scale.inv_eq _ (A.YH_nonneg b (σ r))]
  rfl

theorem HS_at (r : Fin 512) : HS x1 (ix2 0 r) = A.HS b (σ r) := by
  rw [HS_read]
  simp only [R.h1]
  rw [show (Finset.fold max (Ideal.ofBits FTy.f32 0xFF800000#32) (fun d => max (A.x b (σ r) d) (-(A.x b (σ r) d))) Finset.univ
          * Ideal.ofBits FTy.f32 0x3B124925#32) = A.YH b (σ r) from rfl, Scale.scale_eq _ (A.YH_nonneg b (σ r))]
  rfl

theorem PR_at (p : Fin 64) (r : Fin 512) : PR x1 x2 x3 x4 (ix2 p r) = A.P b (σ r) p := by
  unfold PR
  rw [pay97_read, show k0_pay96 (F := Ideal) IO (k0_pay95 (AM x1)) 0#32 (ix2 0 r) = A.HS b (σ r) from HS_at R r, R.h3, R.h4]
  simp only [R.h2, HQ_read, HB_at R]
  unfold Scale.Args.P
  simp only [mul_comm (A.w _ p)]

theorem PB_at (p : Fin 64) (r : Fin 512) : PB x1 x2 x3 x4 (ix3 0 p r) = A.P b (σ r) p := by
  unfold PB
  rw [pay98_read]
  exact PR_at R p r

theorem D_at (p : Fin 64) (r : Fin 512) : k0_pay99 (F := Ideal) (PR x1 x2 x3 x4) x6 x5 (ix2 p r) = A.D b (σ r) p := by
  rw [pay99_read, PR_at R, R.h5, R.h6]
  rfl

theorem SQ0_at (p : Fin 64) (r : Fin 512) : SQ0 x1 x2 x3 x4 x5 x6 (ix2 p r) = A.D b (σ r) p * A.D b (σ r) p := by
  unfold SQ0
  rw [pay102_read, pay100_read, D_at R]

theorem SQ1_at (S : Vec Ideal S64x512 .f32) (p : Fin 64) (r : Fin 512) :
    SQ1 x1 x2 x3 x4 x5 x6 S (ix2 p r) = S (ix2 p r) + A.D b (σ r) p * A.D b (σ r) p := by
  unfold SQ1
  rw [pay103_read, pay100_read, D_at R]

theorem LO_at (S : Vec Ideal S64x512 .f32) : LO i x0 S = A.lw b * ((∑ p, ∑ r, S (ix2 p r)) * Ideal.ofBits FTy.f32 0x36800000#32) := by
  unfold LO
  rw [pay104_read, R.h0]

theorem GR_at (p : Fin 64) (r : Fin 512) : GR i x0 x1 x2 x3 x4 x5 x6 (ix2 p r) = A.G b (σ r) p := by
  unfold GR
  rw [pay101_read, D_at R, R.h0]
  rfl

theorem EX_at (r : Fin 512) : EX i x0 x1 x2 x3 x4 x5 x6 (ix2 0 r) = Scale.fld (A.YG b (σ r)) := by
  unfold EX
  rw [pay105_read]
  simp only [show ∀ p, k0_pay101 (F := Ideal) (PR x1 x2 x3 x4) x6 x5 (LW i x0) (ix2 p r) = A.G b (σ r) p from fun p => GR_at R p r]
  rfl

theorem DS_at (r : Fin 512) : DS i x0 x1 x2 x3 x4 x5 x6 (ix2 0 r) = A.DS b (σ r) := by
  unfold DS
  rw [pay108_read, EX_at R, Scale.scale_eq _ (A.YG_nonneg b (σ r))]
  rfl

theorem DVm_at (p : Fin 64) (r : Fin 512) :
    k0_pay109 (F := Ideal) (GR i x0 x1 x2 x3 x4 x5 x6) (EX i x0 x1 x2 x3 x4 x5 x6) k0_pay106 (ix2 p r) = A.DV b (σ r) p := by
  rw [pay109_read, EX_at R, GR_at R, Scale.inv_eq _ (A.YG_nonneg b (σ r))]
  rfl

theorem DV_at (p : Fin 64) (r : Fin 512) : DV i x0 x1 x2 x3 x4 x5 x6 (ix3 0 p r) = A.DV b (σ r) p := by
  unfold DV
  rw [pay110_read, DVm_at R]

theorem GD_at (p : Fin 64) (r : Fin 512) : GD i x0 x1 x2 x3 x4 x5 x6 (ix2 p r) = A.DV b (σ r) p * A.DS b (σ r) := by
  unfold GD
  rw [pay111_read, DVm_at R]
  exact congrArg _ (DS_at R r)

theorem WB_at (p : Fin 64) (d : Fin 2432) : WB x2 x3 (ix2 p d) = A.w d p * A.ws p := by
  unfold WB
  rw [pay3_read, R.h2, R.h3]

theorem DHB_at (r : Fin 512) (d : Fin 2432) : DHB i x0 x1 x2 x3 x4 x5 x6 (WB x2 x3) (ix3 0 r d) = A.DH b (σ r) d := by
  unfold DHB
  rw [pay1_read, pay112_read]
  simp only [show ∀ p, k0_pay111 (F := Ideal) (GR i x0 x1 x2 x3 x4 x5 x6) (EX i x0 x1 x2 x3 x4 x5 x6) k0_pay106 (ix2 p r)
    = A.DV b (σ r) p * A.DS b (σ r) from fun p => GD_at R p r, WB_at R]
  exact Scale.Args.DH_eq A b (σ r) d

theorem DWB_at (Y : Vec Ideal S64x2432 .f32) (p : Fin 64) (d : Fin 2432) : DWB i x0 x1 x2 x3 x4 x5 x6 Y (ix2 p d)
    = Y (ix2 p d) + ∑ r, A.H b (σ r) d * A.HS b (σ r) * (A.DV b (σ r) p * A.DS b (σ r)) := by
  unfold DWB
  rw [pay2_read]
  refine congrArg (Y (ix2 p d) + ·) (Finset.sum_congr rfl fun r _ => ?_)
  rw [GD_at R, HS_at R, HQ_read, HB_at R, mul_comm _ (A.HS b (σ r)), mul_comm _ (A.H b (σ r) d), ← mul_assoc]

end

end Cert.KernelIdeal.Gen
-- ==== Proof.IBlk.lean ====
/- The blocks that a grid point fetches, read as functions of the arguments: point `t` holds batch row `t / 8` and
   the 512 tokens from `512 * (t % 8)`. -/
module

public import Idealize.ShloMosaic.Lib.StableHlo.ReadAt
public import proofs.«01_k».proof.Proof.KDat
public import proofs.«01_k».proof.Proof.IKern

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

/-- The arguments on core `c`. -/
def AR : Scale.Args := Scale.argsOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

theorem lt96 (t : Fin cfg0.N) : t.val < 96 := lt_of_lt_of_eq t.isLt N_0

/-- The batch row of a point. -/
def bOf (t : Fin cfg0.N) : Fin 12 := ⟨t.val / 8, by have := lt96 t; omega⟩

/-- The token in row `r` of a point's blocks. -/
def sOf (t : Fin cfg0.N) (r : Fin 512) : Fin 4096 := ⟨512 * (t.val % 8) + r.val, by have := r.isLt; omega⟩

/-! ### The host's transposed and reshaped arguments -/

theorem V0_at (p : Fin 64) (d : Fin 2432) : V m c main_v0 (ix2 p d) = m ((c : Thread nD τ).loc main_arg1) (ix2 d p) := by
  unfold V
  after_reads_at

theorem V1_at (p : Fin 64) : V m c main_v1 (ix2 p 0) = m ((c : Thread nD τ).loc main_arg2) (ix1 p) := by
  unfold V
  after_reads_at

theorem V2_at (p : Fin 64) : V m c main_v2 (ix2 p 0) = m ((c : Thread nD τ).loc main_arg3) (ix1 p) := by
  unfold V
  after_reads_at

theorem V3_at (b : Fin 12) (p : Fin 64) (s : Fin 4096) : V m c main_v3 (ix3 b p s) = m ((c : Thread nD τ).loc main_arg4) (ix3 b s p) := by
  unfold V
  after_reads_at

theorem V4_at (b : Fin 12) (p : Fin 64) (s : Fin 4096) : V m c main_v4 (ix3 b p s) = m ((c : Thread nD τ).loc main_arg5) (ix3 b s p) := by
  unfold V
  after_reads_at

/-! ### The grid's coordinates and the windows' block indices -/

theorem coord_eq : ∀ t : Fin cfg0.N, (grid0.coords t 0).val = t.val / 8 ∧ (grid0.coords t 1).val = t.val % 8 :=
  (by decide +kernel : ∀ t : Fin grid0.N, _)

theorem ix_0 : ∀ t : Fin cfg0.N, win0_0.index t (0 : Fin 1) = 0 := (by decide +kernel : ∀ t : Fin grid0.N, _)
theorem ix_1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem ix_2 : ∀ t : Fin cfg0.N, win0_2.index t (0 : Fin 2) = 0 ∧ win0_2.index t (1 : Fin 2) = 0 := (by decide +kernel : ∀ t : Fin grid0.N, _)
theorem ix_3 : ∀ t : Fin cfg0.N, win0_3.index t (0 : Fin 2) = 0 ∧ win0_3.index t (1 : Fin 2) = 0 := (by decide +kernel : ∀ t : Fin grid0.N, _)
theorem ix_4 : ∀ t : Fin cfg0.N, win0_4.index t (0 : Fin 2) = 0 ∧ win0_4.index t (1 : Fin 2) = 0 := (by decide +kernel : ∀ t : Fin grid0.N, _)
theorem ix_5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)
theorem ix_6 : ∀ t : Fin cfg0.N, win0_6.index t (0 : Fin 3) = t.val / 8 ∧ win0_6.index t (1 : Fin 3) = 0 ∧ win0_6.index t (2 : Fin 3) = t.val % 8 :=
  (by decide +kernel : ∀ t : Fin grid0.N, _)

theorem em_0 (t : Fin cfg0.N) (j : S12.Idx) : ((cfg0.win 0).blk t).view.emb j = j := by
  have e0 := ix_0 t
  funext a; apply Fin.ext
  match a with
  | ⟨0, _⟩ => show win0_0.index t (0 : Fin 1) * 12 + 1 * (j 0).val = (j 0).val; omega

theorem em_1 (t : Fin cfg0.N) (r : Fin 512) (d : Fin 2432) :
    ((cfg0.win 1).blk t).view.emb (ix3 (0 : Fin 1) r d) = ix3 (bOf t) (sOf t r) d := by
  obtain ⟨e0, e1, e2⟩ := ix_1 t
  funext a; apply Fin.ext
  match a with
  | ⟨0, _⟩ => show win0_1.index t (0 : Fin 3) * 1 + 1 * 0 = t.val / 8; omega
  | ⟨1, _⟩ => show win0_1.index t (1 : Fin 3) * 512 + 1 * r.val = 512 * (t.val % 8) + r.val; omega
  | ⟨2, _⟩ => show win0_1.index t (2 : Fin 3) * 2432 + 1 * d.val = d.val; omega

theorem em_2 (t : Fin cfg0.N) (j : S64x2432.Idx) : ((cfg0.win 2).blk t).view.emb j = j := by
  obtain ⟨e0, e1⟩ := ix_2 t
  funext a; apply Fin.ext
  match a with
  | ⟨0, _⟩ => show win0_2.index t (0 : Fin 2) * 64 + 1 * (j 0).val = (j 0).val; omega
  | ⟨1, _⟩ => show win0_2.index t (1 : Fin 2) * 2432 + 1 * (j 1).val = (j 1).val; omega

theorem em_3 (t : Fin cfg0.N) (j : S64x1.Idx) : ((cfg0.win 3).blk t).view.emb j = j := by
  obtain ⟨e0, e1⟩ := ix_3 t
  funext a; apply Fin.ext
  match a with
  | ⟨0, _⟩ => show win0_3.index t (0 : Fin 2) * 64 + 1 * (j 0).val = (j 0).val; omega
  | ⟨1, _⟩ => show win0_3.index t (1 : Fin 2) * 1 + 1 * (j 1).val = (j 1).val; omega

theorem em_4 (t : Fin cfg0.N) (j : S64x1.Idx) : ((cfg0.win 4).blk t).view.emb j = j := by
  obtain ⟨e0, e1⟩ := ix_4 t
  funext a; apply Fin.ext
  match a with
  | ⟨0, _⟩ => show win0_4.index t (0 : Fin 2) * 64 + 1 * (j 0).val = (j 0).val; omega
  | ⟨1, _⟩ => show win0_4.index t (1 : Fin 2) * 1 + 1 * (j 1).val = (j 1).val; omega

theorem em_5 (t : Fin cfg0.N) (p : Fin 64) (r : Fin 512) :
    ((cfg0.win 5).blk t).view.emb (ix3 (0 : Fin 1) p r) = ix3 (bOf t) p (sOf t r) := by
  obtain ⟨e0, e1, e2⟩ := ix_5 t
  funext a; apply Fin.ext
  match a with
  | ⟨0, _⟩ => show win0_5.index t (0 : Fin 3) * 1 + 1 * 0 = t.val / 8; omega
  | ⟨1, _⟩ => show win0_5.index t (1 : Fin 3) * 64 + 1 * p.val = p.val; omega
  | ⟨2, _⟩ => show win0_5.index t (2 : Fin 3) * 512 + 1 * r.val = 512 * (t.val % 8) + r.val; omega

theorem em_6 (t : Fin cfg0.N) (p : Fin 64) (r : Fin 512) :
    ((cfg0.win 6).blk t).view.emb (ix3 (0 : Fin 1) p r) = ix3 (bOf t) p (sOf t r) := by
  obtain ⟨e0, e1, e2⟩ := ix_6 t
  funext a; apply Fin.ext
  match a with
  | ⟨0, _⟩ => show win0_6.index t (0 : Fin 3) * 1 + 1 * 0 = t.val / 8; omega
  | ⟨1, _⟩ => show win0_6.index t (1 : Fin 3) * 64 + 1 * p.val = p.val; omega
  | ⟨2, _⟩ => show win0_6.index t (2 : Fin 3) * 512 + 1 * r.val = 512 * (t.val % 8) + r.val; omega

/-- What point `t` reads. -/
theorem reads (t : Fin cfg0.N) : Reads (AR m c) (bOf t) (sOf t) (grid0.coords t) (iblk m c 0 t) (iblk m c 1 t) (iblk m c 2 t)
    (iblk m c 3 t) (iblk m c 4 t) (iblk m c 5 t) (iblk m c 6 t) where
  h0 := by
    rw [LW_eq]
    show V m c main_arg6 (((cfg0.win 0).blk t).view.emb _) = _
    rw [em_0, V_main_arg6]
    refine congrArg (m ((c : Thread nD τ).loc main_arg6)) (funext fun a => Fin.ext ?_)
    match a with
    | ⟨0, _⟩ => exact (coord_eq t).1
  h1 r d := by
    show V m c main_arg0 (((cfg0.win 1).blk t).view.emb _) = _
    rw [em_1, V_main_arg0]; rfl
  h2 p d := by
    show V m c main_v0 (((cfg0.win 2).blk t).view.emb _) = _
    rw [em_2, V0_at]; rfl
  h3 p := by
    show V m c main_v1 (((cfg0.win 3).blk t).view.emb _) = _
    rw [em_3, V1_at]; rfl
  h4 p := by
    show V m c main_v2 (((cfg0.win 4).blk t).view.emb _) = _
    rw [em_4, V2_at]; rfl
  h5 p r := by
    show V m c main_v3 (((cfg0.win 5).blk t).view.emb _) = _
    rw [em_5, V3_at]; rfl
  h6 p r := by
    show V m c main_v4 (((cfg0.win 6).blk t).view.emb _) = _
    rw [em_6, V4_at]; rfl

end Cert.KernelIdeal.Gen

end
-- ==== Proof.IArr.lean ====
/- The arrays that the kernel ends with: the functions of the arguments of IMath. -/
module

public import Idealize.ShloMosaic.Lib.Pipeline.ArrRel
public import proofs.«01_k».proof.Proof.IBlk

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

/-! ### The eight arrays -/

def T7 : Vec Ideal S12 .f32 := fun z => (AR m c).LO (z 0)
def T8 : Vec Ideal S12x64x4096 .f32 := fun z => (AR m c).P (z 0) (z 2) (z 1)
def T9 : Vec Ideal S12x4096x2432 .bf16 := fun z => (AR m c).DH (z 0) (z 1) (z 2)
def T10 : Vec Ideal S64x2432 .f32 := fun z => (AR m c).DW (z 0) (z 1)
def T11 : Vec Ideal S12x4096x2432 .fp8e4m3 := fun z => (AR m c).H (z 0) (z 1) (z 2)
def T12 : Vec Ideal S12x4096 .f32 := fun z => (AR m c).HS (z 0) (z 1)
def T13 : Vec Ideal S12x64x4096 .fp8e5m2 := fun z => (AR m c).DV (z 0) (z 2) (z 1)
def T14 : Vec Ideal S12x4096 .f32 := fun z => (AR m c).DS (z 0) (z 1)

/-! ### The output windows' block indices -/

theorem ix_8 : ∀ t : Fin cfg0.N, win0_8.index t (0 : Fin 3) = t.val / 8 ∧ win0_8.index t (1 : Fin 3) = 0 ∧ win0_8.index t (2 : Fin 3) = t.val % 8 :=
  (by decide +kernel : ∀ t : Fin grid0.N, _)
theorem ix_9 : ∀ t : Fin cfg0.N, win0_9.index t (0 : Fin 3) = t.val / 8 ∧ win0_9.index t (1 : Fin 3) = t.val % 8 ∧ win0_9.index t (2 : Fin 3) = 0 :=
  (by decide +kernel : ∀ t : Fin grid0.N, _)
theorem ix_11 : ∀ t : Fin cfg0.N, win0_11.index t (0 : Fin 3) = t.val / 8 ∧ win0_11.index t (1 : Fin 3) = t.val % 8 ∧ win0_11.index t (2 : Fin 3) = 0 :=
  (by decide +kernel : ∀ t : Fin grid0.N, _)
theorem ix_13 : ∀ t : Fin cfg0.N, win0_13.index t (0 : Fin 3) = t.val / 8 ∧ win0_13.index t (1 : Fin 3) = 0 ∧ win0_13.index t (2 : Fin 3) = t.val % 8 :=
  (by decide +kernel : ∀ t : Fin grid0.N, _)
theorem ix_7 : ∀ t : Fin cfg0.N, win0_7.index t (0 : Fin 1) = 0 := (by decide +kernel : ∀ t : Fin grid0.N, _)
theorem ix_10 : ∀ t : Fin cfg0.N, win0_10.index t (0 : Fin 2) = 0 ∧ win0_10.index t (1 : Fin 2) = 0 := (by decide +kernel : ∀ t : Fin grid0.N, _)
theorem ix_12 : ∀ t : Fin cfg0.N, win0_12.index t (0 : Fin 2) = 0 ∧ win0_12.index t (1 : Fin 2) = 0 := (by decide +kernel : ∀ t : Fin grid0.N, _)
theorem ix_14 : ∀ t : Fin cfg0.N, win0_14.index t (0 : Fin 2) = 0 ∧ win0_14.index t (1 : Fin 2) = 0 := (by decide +kernel : ∀ t : Fin grid0.N, _)

theorem em_8 (t : Fin cfg0.N) (p : Fin 64) (r : Fin 512) :
    ((cfg0.win 8).blk t).view.emb (ix3 (0 : Fin 1) p r) = ix3 (bOf t) p (sOf t r) := by
  obtain ⟨e0, e1, e2⟩ := ix_8 t
  funext a; apply Fin.ext
  match a with
  | ⟨0, _⟩ => show win0_8.index t (0 : Fin 3) * 1 + 1 * 0 = t.val / 8; omega
  | ⟨1, _⟩ => show win0_8.index t (1 : Fin 3) * 64 + 1 * p.val = p.val; omega
  | ⟨2, _⟩ => show win0_8.index t (2 : Fin 3) * 512 + 1 * r.val = 512 * (t.val % 8) + r.val; omega

theorem em_13 (t : Fin cfg0.N) (p : Fin 64) (r : Fin 512) :
    ((cfg0.win 13).blk t).view.emb (ix3 (0 : Fin 1) p r) = ix3 (bOf t) p (sOf t r) := by
  obtain ⟨e0, e1, e2⟩ := ix_13 t
  funext a; apply Fin.ext
  match a with
  | ⟨0, _⟩ => show win0_13.index t (0 : Fin 3) * 1 + 1 * 0 = t.val / 8; omega
  | ⟨1, _⟩ => show win0_13.index t (1 : Fin 3) * 64 + 1 * p.val = p.val; omega
  | ⟨2, _⟩ => show win0_13.index t (2 : Fin 3) * 512 + 1 * r.val = 512 * (t.val % 8) + r.val; omega

theorem em_9 (t : Fin cfg0.N) (r : Fin 512) (d : Fin 2432) :
    ((cfg0.win 9).blk t).view.emb (ix3 (0 : Fin 1) r d) = ix3 (bOf t) (sOf t r) d := by
  obtain ⟨e0, e1, e2⟩ := ix_9 t
  funext a; apply Fin.ext
  match a with
  | ⟨0, _⟩ => show win0_9.index t (0 : Fin 3) * 1 + 1 * 0 = t.val / 8; omega
  | ⟨1, _⟩ => show win0_9.index t (1 : Fin 3) * 512 + 1 * r.val = 512 * (t.val % 8) + r.val; omega
  | ⟨2, _⟩ => show win0_9.index t (2 : Fin 3) * 2432 + 1 * d.val = d.val; omega

theorem em_11 (t : Fin cfg0.N) (r : Fin 512) (d : Fin 2432) :
    ((cfg0.win 11).blk t).view.emb (ix3 (0 : Fin 1) r d) = ix3 (bOf t) (sOf t r) d := by
  obtain ⟨e0, e1, e2⟩ := ix_11 t
  funext a; apply Fin.ext
  match a with
  | ⟨0, _⟩ => show win0_11.index t (0 : Fin 3) * 1 + 1 * 0 = t.val / 8; omega
  | ⟨1, _⟩ => show win0_11.index t (1 : Fin 3) * 512 + 1 * r.val = 512 * (t.val % 8) + r.val; omega
  | ⟨2, _⟩ => show win0_11.index t (2 : Fin 3) * 2432 + 1 * d.val = d.val; omega

theorem em_7 (t : Fin cfg0.N) (j : S12.Idx) : ((cfg0.win 7).blk t).view.emb j = j := by
  have e0 := ix_7 t
  funext a; apply Fin.ext
  match a with
  | ⟨0, _⟩ => show win0_7.index t (0 : Fin 1) * 12 + 1 * (j 0).val = (j 0).val; omega

theorem em_10 (t : Fin cfg0.N) (j : S64x2432.Idx) : ((cfg0.win 10).blk t).view.emb j = j := by
  obtain ⟨e0, e1⟩ := ix_10 t
  funext a; apply Fin.ext
  match a with
  | ⟨0, _⟩ => show win0_10.index t (0 : Fin 2) * 64 + 1 * (j 0).val = (j 0).val; omega
  | ⟨1, _⟩ => show win0_10.index t (1 : Fin 2) * 2432 + 1 * (j 1).val = (j 1).val; omega

theorem em_12 (t : Fin cfg0.N) (j : S12x4096.Idx) : ((cfg0.win 12).blk t).view.emb j = j := by
  obtain ⟨e0, e1⟩ := ix_12 t
  funext a; apply Fin.ext
  match a with
  | ⟨0, _⟩ => show win0_12.index t (0 : Fin 2) * 12 + 1 * (j 0).val = (j 0).val; omega
  | ⟨1, _⟩ => show win0_12.index t (1 : Fin 2) * 4096 + 1 * (j 1).val = (j 1).val; omega

theorem em_14 (t : Fin cfg0.N) (j : S12x4096.Idx) : ((cfg0.win 14).blk t).view.emb j = j := by
  obtain ⟨e0, e1⟩ := ix_14 t
  funext a; apply Fin.ext
  match a with
  | ⟨0, _⟩ => show win0_14.index t (0 : Fin 2) * 12 + 1 * (j 0).val = (j 0).val; omega
  | ⟨1, _⟩ => show win0_14.index t (1 : Fin 2) * 4096 + 1 * (j 1).val = (j 1).val; omega

/-! ### Every token is in one point's blocks -/

/-- The point of a batch row and a token. -/
def ptOf (b : Fin 12) (s : Fin 4096) : Fin cfg0.N :=
  ⟨8 * b.val + s.val / 512, by have h : cfg0.N = 96 := N_0; have := b.isLt; have := s.isLt; omega⟩

/-- A token's row in its point's blocks. -/
def rowOf (s : Fin 4096) : Fin 512 := ⟨s.val % 512, Nat.mod_lt _ (by decide)⟩

theorem bOf_ptOf (b : Fin 12) (s : Fin 4096) : bOf (ptOf b s) = b := by
  apply Fin.ext; show (8 * b.val + s.val / 512) / 8 = b.val; have := s.isLt; omega

theorem sOf_ptOf (b : Fin 12) (s : Fin 4096) : sOf (ptOf b s) (rowOf s) = s := by
  apply Fin.ext; show 512 * ((8 * b.val + s.val / 512) % 8) + s.val % 512 = s.val; have := s.isLt; omega

variable (after : (w : Fin cfg0.W) → Fin cfg0.N → (cfg0.win w).block.Idx → Elt Ideal (cfg0.win w).elt)
  (hL : ∀ (w : Fin cfg0.W) (u : Fin cfg0.N), (cfg0.win w).flush u = true → (rdats m c).Leaves w u (after w u))

include hL

/-! ### The arrays written block by block -/

theorem arr_8 : ((rdats m c).withAfter after).arrAt 8 cfg0.N = T8 m c :=
  ((rdats m c).withAfter after).arrAt_eq_of_cover 8 (T8 m c) (fun t hf => by
    obtain ⟨Y, -, hY⟩ := hL 8 t hf
    show (cfg0.win 8).cut (grid0.coords t) (after 8 t) = _
    funext j
    show after 8 t j = T8 m c (((cfg0.win 8).blk t).view.emb j)
    rw [show after 8 t = PB (iblk m c 1 t) (iblk m c 2 t) (iblk m c 3 t) (iblk m c 4 t) from hY]
    obtain ⟨a, p, r, rfl⟩ : ∃ (a : Fin 1) (p : Fin 64) (r : Fin 512), j = ix3 a p r := ⟨j 0, j 1, j 2, eq_ix3 j⟩
    obtain rfl := Fin.fin_one_eq_zero a
    rw [em_8]
    exact PB_at (reads m c t) p r)
    fun z => by
      obtain ⟨b, p, s, rfl⟩ : ∃ (b : Fin 12) (p : Fin 64) (s : Fin 4096), z = ix3 b p s := ⟨z 0, z 1, z 2, eq_ix3 z⟩
      refine ⟨ptOf b s, flush0_8 _, ?_⟩
      have h := ((cfg0.win 8).blk (ptOf b s)).view.emb_mem_set (ix3 (0 : Fin 1) p (rowOf s))
      rwa [em_8, bOf_ptOf, sOf_ptOf] at h

theorem arr_13 : ((rdats m c).withAfter after).arrAt 13 cfg0.N = T13 m c :=
  ((rdats m c).withAfter after).arrAt_eq_of_cover 13 (T13 m c) (fun t hf => by
    obtain ⟨Y, -, hY⟩ := hL 13 t hf
    show (cfg0.win 13).cut (grid0.coords t) (after 13 t) = _
    funext j
    show after 13 t j = T13 m c (((cfg0.win 13).blk t).view.emb j)
    rw [show after 13 t = DV (grid0.coords t) (iblk m c 0 t) (iblk m c 1 t) (iblk m c 2 t) (iblk m c 3 t) (iblk m c 4 t) (iblk m c 5 t) (iblk m c 6 t) from hY]
    obtain ⟨a, p, r, rfl⟩ : ∃ (a : Fin 1) (p : Fin 64) (r : Fin 512), j = ix3 a p r := ⟨j 0, j 1, j 2, eq_ix3 j⟩
    obtain rfl := Fin.fin_one_eq_zero a
    rw [em_13]
    exact DV_at (reads m c t) p r)
    fun z => by
      obtain ⟨b, p, s, rfl⟩ : ∃ (b : Fin 12) (p : Fin 64) (s : Fin 4096), z = ix3 b p s := ⟨z 0, z 1, z 2, eq_ix3 z⟩
      refine ⟨ptOf b s, flush0_13 _, ?_⟩
      have h := ((cfg0.win 13).blk (ptOf b s)).view.emb_mem_set (ix3 (0 : Fin 1) p (rowOf s))
      rwa [em_13, bOf_ptOf, sOf_ptOf] at h

theorem arr_9 : ((rdats m c).withAfter after).arrAt 9 cfg0.N = T9 m c :=
  ((rdats m c).withAfter after).arrAt_eq_of_cover 9 (T9 m c) (fun t hf => by
    obtain ⟨Y, -, hY⟩ := hL 9 t hf
    show (cfg0.win 9).cut (grid0.coords t) (after 9 t) = _
    funext j
    show after 9 t j = T9 m c (((cfg0.win 9).blk t).view.emb j)
    rw [show after 9 t = DHB (grid0.coords t) (iblk m c 0 t) (iblk m c 1 t) (iblk m c 2 t) (iblk m c 3 t) (iblk m c 4 t) (iblk m c 5 t) (iblk m c 6 t) (WBM m c) from hY]
    obtain ⟨a, r, d, rfl⟩ : ∃ (a : Fin 1) (r : Fin 512) (d : Fin 2432), j = ix3 a r d := ⟨j 0, j 1, j 2, eq_ix3 j⟩
    obtain rfl := Fin.fin_one_eq_zero a
    rw [em_9, WBM_eq m c t]
    exact DHB_at (reads m c t) r d)
    fun z => by
      obtain ⟨b, s, d, rfl⟩ : ∃ (b : Fin 12) (s : Fin 4096) (d : Fin 2432), z = ix3 b s d := ⟨z 0, z 1, z 2, eq_ix3 z⟩
      refine ⟨ptOf b s, flush0_9 _, ?_⟩
      have h := ((cfg0.win 9).blk (ptOf b s)).view.emb_mem_set (ix3 (0 : Fin 1) (rowOf s) d)
      rwa [em_9, bOf_ptOf, sOf_ptOf] at h

theorem arr_11 : ((rdats m c).withAfter after).arrAt 11 cfg0.N = T11 m c :=
  ((rdats m c).withAfter after).arrAt_eq_of_cover 11 (T11 m c) (fun t hf => by
    obtain ⟨Y, -, hY⟩ := hL 11 t hf
    show (cfg0.win 11).cut (grid0.coords t) (after 11 t) = _
    funext j
    show after 11 t j = T11 m c (((cfg0.win 11).blk t).view.emb j)
    rw [show after 11 t = HB (iblk m c 1 t) from hY]
    obtain ⟨a, r, d, rfl⟩ : ∃ (a : Fin 1) (r : Fin 512) (d : Fin 2432), j = ix3 a r d := ⟨j 0, j 1, j 2, eq_ix3 j⟩
    obtain rfl := Fin.fin_one_eq_zero a
    rw [em_11]
    exact HB_at (reads m c t) r d)
    fun z => by
      obtain ⟨b, s, d, rfl⟩ : ∃ (b : Fin 12) (s : Fin 4096) (d : Fin 2432), z = ix3 b s d := ⟨z 0, z 1, z 2, eq_ix3 z⟩
      refine ⟨ptOf b s, flush0_11 _, ?_⟩
      have h := ((cfg0.win 11).blk (ptOf b s)).view.emb_mem_set (ix3 (0 : Fin 1) (rowOf s) d)
      rwa [em_11, bOf_ptOf, sOf_ptOf] at h

end Cert.KernelIdeal.Gen

end
-- ==== Proof.IAcc.lean ====
/- The arrays that the points fill or add to one after another and the last point writes back: the losses, the
   weight's gradient, the two arrays of scales. -/
module

public import proofs.«01_k».proof.Proof.IArr

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

/-! ### What a point finds is what the point before it left -/

theorem finds_prev (w : Fin cfg0.W) (hf : ∀ t, (cfg0.win w).fetch t = false) (hfl : ∀ t, (cfg0.win w).flush t = true ↔ t.val % 96 = 95)
    (n : ℕ) (h : n + 1 < cfg0.N) (Y : (cfg0.win w).block.Idx → Elt Ideal (cfg0.win w).elt)
    (hY : (rdats m c).Finds w ⟨n + 1, h⟩ Y) : (rdats m c).Leaves w ⟨n, Nat.lt_of_succ_lt h⟩ Y := by
  rcases ((rdats m c).finds_of_pos (hf _) (Nat.succ_ne_zero n) Y).mp hY with hl | hl
  · have h1 := (hfl _).mp hl
    have h2 : cfg0.N = 96 := N_0
    have h3 : n % 96 = 95 := h1
    omega
  · exact hl

/-! ### The scales, row by row -/

/-- A row of the buffer after a point writes it. -/
theorem ROW_at (t : Fin cfg0.N) (Y : Vec Ideal S12x4096 .f32) (v : Vec Ideal S1x512 .f32) (b : Fin 12) (s : Fin 4096) :
    ROW (grid0.coords t) Y v (ix2 b s) = if 8 * b.val + s.val / 512 = t.val then v (ix2 0 (rowOf s)) else Y (ix2 b s) := by
  obtain ⟨e0, e1⟩ := coord_eq t
  have hs := s.isLt
  by_cases h : 8 * b.val + s.val / 512 = t.val
  · rw [if_pos h]
    have hb : b.val = (grid0.coords t 0).val := by omega
    have hr : s.val / 512 = (grid0.coords t 1).val := by omega
    refine (if_pos ⟨hb, hr⟩).trans (congrArg v (funext fun a => ?_))
    match a with
    | ⟨0, _⟩ => rfl
    | ⟨1, _⟩ => rfl
  · rw [if_neg h]
    refine if_neg fun hh => h ?_
    have h1 : b.val = _ := hh.1
    have h2 : s.val / 512 = _ := hh.2
    omega

theorem leaves_12 : ∀ (n : ℕ) (hn : n < cfg0.N) (X : Vec Ideal S12x4096 .f32), (rdats m c).Leaves 12 ⟨n, hn⟩ X →
    ∀ (b : Fin 12) (s : Fin 4096), 8 * b.val + s.val / 512 ≤ n → X (ix2 b s) = (AR m c).HS b s := by
  intro n
  induction n with
  | zero =>
    intro hn X ⟨Y, hY, hX⟩ b s hbs
    have e : X = ROW (grid0.coords ⟨0, hn⟩) Y (HS (iblk m c 1 ⟨0, hn⟩)) := hX
    have h0 : 8 * b.val + s.val / 512 = 0 := Nat.le_zero.mp hbs
    rw [e, ROW_at, if_pos h0, HS_at (reads m c ⟨0, hn⟩)]
    have hp : (⟨0, hn⟩ : Fin cfg0.N) = ptOf b s := Fin.ext h0.symm
    rw [hp, bOf_ptOf, sOf_ptOf]
  | succ n ih =>
    intro hn X ⟨Y, hY, hX⟩ b s hbs
    have e : X = ROW (grid0.coords ⟨n + 1, hn⟩) Y (HS (iblk m c 1 ⟨n + 1, hn⟩)) := hX
    rw [e, ROW_at]
    by_cases h0 : 8 * b.val + s.val / 512 = n + 1
    · rw [if_pos h0, HS_at (reads m c ⟨n + 1, hn⟩)]
      have hp : (⟨n + 1, hn⟩ : Fin cfg0.N) = ptOf b s := Fin.ext h0.symm
      rw [hp, bOf_ptOf, sOf_ptOf]
    · rw [if_neg h0]
      exact ih _ Y (finds_prev m c 12 (fun t => Pipeline.Window.fetch_out _ rfl t) flush0_12 n hn Y hY) b s (by omega)

theorem leaves_14 : ∀ (n : ℕ) (hn : n < cfg0.N) (X : Vec Ideal S12x4096 .f32), (rdats m c).Leaves 14 ⟨n, hn⟩ X →
    ∀ (b : Fin 12) (s : Fin 4096), 8 * b.val + s.val / 512 ≤ n → X (ix2 b s) = (AR m c).DS b s := by
  intro n
  induction n with
  | zero =>
    intro hn X ⟨Y, hY, hX⟩ b s hbs
    have e : X = ROW (grid0.coords ⟨0, hn⟩) Y (DS (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)) := hX
    have h0 : 8 * b.val + s.val / 512 = 0 := Nat.le_zero.mp hbs
    rw [e, ROW_at, if_pos h0, DS_at (reads m c ⟨0, hn⟩)]
    have hp : (⟨0, hn⟩ : Fin cfg0.N) = ptOf b s := Fin.ext h0.symm
    rw [hp, bOf_ptOf, sOf_ptOf]
  | succ n ih =>
    intro hn X ⟨Y, hY, hX⟩ b s hbs
    have e : X = ROW (grid0.coords ⟨n + 1, hn⟩) Y (DS (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)) := hX
    rw [e, ROW_at]
    by_cases h0 : 8 * b.val + s.val / 512 = n + 1
    · rw [if_pos h0, DS_at (reads m c ⟨n + 1, hn⟩)]
      have hp : (⟨n + 1, hn⟩ : Fin cfg0.N) = ptOf b s := Fin.ext h0.symm
      rw [hp, bOf_ptOf, sOf_ptOf]
    · rw [if_neg h0]
      exact ih _ Y (finds_prev m c 14 (fun t => Pipeline.Window.fetch_out _ rfl t) flush0_14 n hn Y hY) b s (by omega)

/-! ### Sums over the points and their rows -/

/-- The batch row of point `k`. -/
def bN (k : ℕ) : Fin 12 := ⟨k / 8 % 12, Nat.mod_lt _ (by decide)⟩

/-- The token in row `r` of point `k`. -/
def sN (k : ℕ) (r : Fin 512) : Fin 4096 := ⟨512 * (k % 8) + r.val, by have := r.isLt; omega⟩

theorem bOf_eq (t : Fin cfg0.N) : bOf t = bN t.val := by
  apply Fin.ext; show t.val / 8 = t.val / 8 % 12; have := lt96 t; omega

/-- The tokens are the rows of eight blocks. -/
theorem sum_tokens (f : Fin 4096 → EReal) : (∑ j ∈ Finset.range 8, ∑ r : Fin 512, f (sN j r)) = ∑ s, f s := by
  rw [Finset.sum_range, ← Fintype.sum_prod_type']
  refine Fintype.sum_equiv (finProdFinEquiv (m := 8) (n := 512)) _ _ fun x => congrArg f (Fin.ext ?_)
  have h := x.1.isLt
  show 512 * (x.1.val % 8) + x.2.val = x.2.val + 512 * x.1.val
  omega

/-- The points are eight to a batch row. -/
theorem sum_points (g : Fin 12 → Fin 4096 → EReal) :
    (∑ k ∈ Finset.range 96, ∑ r : Fin 512, g (bN k) (sN k r)) = ∑ b, ∑ s, g b s := by
  have h1 : ∀ b : Fin 12, (∑ s, g b s) = ∑ j : Fin 8, ∑ r : Fin 512, g b (sN j.val r) := fun b => by
    rw [← sum_tokens (g b), Finset.sum_range]
  simp only [h1]
  rw [Finset.sum_range, ← Fintype.sum_prod_type' (f := fun (b : Fin 12) (j : Fin 8) => ∑ r : Fin 512, g b (sN j.val r))]
  refine (Fintype.sum_equiv (finProdFinEquiv (m := 12) (n := 8)) _ _ fun x => Finset.sum_congr rfl fun r _ => ?_).symm
  have ha := x.1.isLt
  have hb := x.2.isLt
  have e1 : bN (finProdFinEquiv x).val = x.1 := by
    apply Fin.ext; show (x.2.val + 8 * x.1.val) / 8 % 12 = x.1.val; omega
  have e2 : sN (finProdFinEquiv x).val r = sN x.2.val r := by
    apply Fin.ext; show 512 * ((x.2.val + 8 * x.1.val) % 8) + r.val = 512 * (x.2.val % 8) + r.val; omega
  rw [e1, e2]

/-! ### The weight's gradient -/

/-- One token's term of the weight's gradient. -/
def dwTerm (p : Fin 64) (d : Fin 2432) (b : Fin 12) (s : Fin 4096) : EReal :=
  (AR m c).H b s d * (AR m c).HS b s * ((AR m c).DV b s p * (AR m c).DS b s)

theorem DWB_pt (t : Fin cfg0.N) (Y : Vec Ideal S64x2432 .f32) (p : Fin 64) (d : Fin 2432) :
    DWB (grid0.coords t) (iblk m c 0 t) (iblk m c 1 t) (iblk m c 2 t) (iblk m c 3 t) (iblk m c 4 t) (iblk m c 5 t) (iblk m c 6 t) Y (ix2 p d)
      = Y (ix2 p d) + ∑ r, dwTerm m c p d (bN t.val) (sN t.val r) := by
  rw [DWB_at (reads m c t), bOf_eq]
  rfl

theorem leaves_10 (p : Fin 64) (d : Fin 2432) : ∀ (n : ℕ) (hn : n < cfg0.N) (X : Vec Ideal S64x2432 .f32), (rdats m c).Leaves 10 ⟨n, hn⟩ X →
    X (ix2 p d) = ∑ k ∈ Finset.range (n + 1), ∑ r, dwTerm m c p d (bN k) (sN k r) := by
  intro n
  induction n with
  | zero =>
    intro hn X ⟨Y, hY, hX⟩
    have e : X = DWB (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (k0_pay4 (F := Ideal)) := hX
    rw [e, DWB_pt, pay4_read, zero_add, Finset.sum_range_one]
  | succ n ih =>
    intro hn X ⟨Y, hY, hX⟩
    have e : X = DWB (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) Y := hX
    rw [e, DWB_pt, ih _ Y (finds_prev m c 10 (fun t => Pipeline.Window.fetch_out _ rfl t) flush0_10 n hn Y hY), Finset.sum_range_succ _ (n + 1)]

/-! ### The losses -/

/-- One token's squared difference. -/
def sqTerm (p : Fin 64) (b : Fin 12) (s : Fin 4096) : EReal := (AR m c).D b s p * (AR m c).D b s p

theorem SQM_at (p : Fin 64) (r : Fin 512) : ∀ (n : ℕ) (hn : n < cfg0.N),
    SQM m c n hn (ix2 p r) = ∑ j ∈ Finset.range (n % 8 + 1), sqTerm m c p (bN n) (sN j r) := by
  intro n
  induction n with
  | zero =>
    intro hn
    rw [SQM_start m c ⟨0, hn⟩ rfl, SQ0_at (reads m c ⟨0, hn⟩), bOf_eq, show 0 % 8 + 1 = 1 from rfl, Finset.sum_range_one]
    rfl
  | succ n ih =>
    intro hn
    by_cases h : (n + 1) % 8 = 0
    · rw [SQM_start m c ⟨n + 1, hn⟩ h, SQ0_at (reads m c ⟨n + 1, hn⟩), bOf_eq, h, Finset.sum_range_one]
      have e : sOf ⟨n + 1, hn⟩ r = sN 0 r := by
        apply Fin.ext; show 512 * ((n + 1) % 8) + r.val = 512 * (0 % 8) + r.val; omega
      rw [e]
      rfl
    · rw [SQM_next m c ⟨n + 1, hn⟩ h (Nat.lt_of_succ_lt hn), SQ1_at (reads m c ⟨n + 1, hn⟩), bOf_eq]
      have h8 : (n + 1) % 8 = n % 8 + 1 := by omega
      have hb : bN (n + 1) = bN n := by apply Fin.ext; show (n + 1) / 8 % 12 = n / 8 % 12; omega
      have e : sOf ⟨n + 1, hn⟩ r = sN (n % 8 + 1) r := by
        apply Fin.ext; show 512 * ((n + 1) % 8) + r.val = 512 * ((n % 8 + 1) % 8) + r.val; omega
      rw [h8, Finset.sum_range_succ _ (n % 8 + 1), e]
      refine congrArg₂ (· + ·) ((ih (Nat.lt_of_succ_lt hn)).trans ?_) rfl
      rw [hb]

/-- Dividing by `2^18` is multiplying by `2^-18`. -/
theorem div_eq (x : EReal) : Ideal.div x (Ideal.ofBits .f32 0x48800000#32) = x * Ideal.ofBits .f32 0x36800000#32 := by
  have h1 : Ideal.ofBits .f32 0x48800000#32 = ((262144 : ℝ) : EReal) := by
    simp [Ideal.ofBits, Ideal.ieee]
    rw [← EReal.coe_mul]
    norm_num
  have h2 : Ideal.ofBits .f32 0x36800000#32 = (((262144 : ℝ)⁻¹ : ℝ) : EReal) := by
    simp [Ideal.ofBits, Ideal.ieee]
    rw [← EReal.coe_mul]
    norm_num
  rw [h1, h2, EReal.coe_inv]
  exact if_neg (by exact_mod_cast (by norm_num : (262144 : ℝ) ≠ 0))

/-- The loss a batch row's last point writes. -/
theorem LO_pt (t : Fin cfg0.N) (h : t.val % 8 = 7) :
    LO (grid0.coords t) (iblk m c 0 t) (SQM m c t.val t.isLt) = (AR m c).LO (bOf t) := by
  rw [LO_at (reads m c t)]
  unfold Scale.Args.LO
  rw [div_eq]
  refine congrArg (fun x => (AR m c).lw (bOf t) * (x * _)) ?_
  simp only [SQM_at, h]
  rw [Finset.sum_comm (s := (Finset.univ : Finset (Fin 4096)))]
  refine Finset.sum_congr rfl fun p _ => ?_
  rw [Finset.sum_comm, bOf_eq]
  exact sum_tokens (sqTerm m c p (bN t.val))

theorem ELT_at (t : Fin cfg0.N) (Y : Vec Ideal S12 .f32) (v : Ideal .f32) (b : Fin 12) :
    ELT (grid0.coords t) Y v (ix1 b) = if b.val = t.val / 8 then v else Y (ix1 b) := by
  show (if b.val = (grid0.coords t 0).val then v else Y (ix1 b)) = _
  rw [(coord_eq t).1]

theorem leaves_7 : ∀ (n : ℕ) (hn : n < cfg0.N) (X : Vec Ideal S12 .f32), (rdats m c).Leaves 7 ⟨n, hn⟩ X →
    ∀ b : Fin 12, 8 * b.val + 7 ≤ n → X (ix1 b) = (AR m c).LO b := by
  intro n
  induction n with
  | zero => intro hn X _ b hb; omega
  | succ n ih =>
    intro hn X ⟨Y, hY, hX⟩ b hb
    have e : X = if (n + 1) % 8 = 7 then ELT (grid0.coords ⟨n + 1, hn⟩) Y (LO (grid0.coords ⟨n + 1, hn⟩) (iblk m c 0 ⟨n + 1, hn⟩) (SQM m c (n + 1) hn)) else Y := hX
    have hp := finds_prev m c 7 (fun t => Pipeline.Window.fetch_out _ rfl t) flush0_7 n hn Y hY
    rw [e]
    by_cases h7 : (n + 1) % 8 = 7
    · rw [if_pos h7, ELT_at]
      by_cases h0 : b.val = (n + 1) / 8
      · rw [if_pos h0, LO_pt m c ⟨n + 1, hn⟩ h7]
        exact congrArg (AR m c).LO (Fin.ext h0.symm)
      · rw [if_neg h0]
        exact ih _ Y hp b (by omega)
    · rw [if_neg h7]
      exact ih _ Y hp b (by omega)

/-! ### The arrays -/

/-- The last point. -/
def ptN : Fin cfg0.N := ⟨95, by have h : cfg0.N = 96 := N_0; omega⟩

variable (after : (w : Fin cfg0.W) → Fin cfg0.N → (cfg0.win w).block.Idx → Elt Ideal (cfg0.win w).elt)
  (hL : ∀ (w : Fin cfg0.W) (u : Fin cfg0.N), (cfg0.win w).flush u = true → (rdats m c).Leaves w u (after w u))

include hL

theorem arr_12 : ((rdats m c).withAfter after).arrAt 12 cfg0.N = T12 m c :=
  ((rdats m c).withAfter after).arrAt_eq_of_cover 12 (T12 m c) (fun t hf => by
    show (cfg0.win 12).cut (grid0.coords t) (after 12 t) = _
    funext j
    show after 12 t j = T12 m c (((cfg0.win 12).blk t).view.emb j)
    rw [em_12]
    obtain ⟨b, s, rfl⟩ : ∃ (b : Fin 12) (s : Fin 4096), j = ix2 b s := ⟨j 0, j 1, eq_ix2 j⟩
    have h := (flush0_12 t).mp hf
    have := b.isLt
    have := s.isLt
    exact leaves_12 m c t.val t.isLt (after 12 t) (hL 12 t hf) b s (by omega))
    fun z => ⟨ptN, (flush0_12 ptN).mpr rfl, by have h := ((cfg0.win 12).blk ptN).view.emb_mem_set z; rwa [em_12] at h⟩

theorem arr_14 : ((rdats m c).withAfter after).arrAt 14 cfg0.N = T14 m c :=
  ((rdats m c).withAfter after).arrAt_eq_of_cover 14 (T14 m c) (fun t hf => by
    show (cfg0.win 14).cut (grid0.coords t) (after 14 t) = _
    funext j
    show after 14 t j = T14 m c (((cfg0.win 14).blk t).view.emb j)
    rw [em_14]
    obtain ⟨b, s, rfl⟩ : ∃ (b : Fin 12) (s : Fin 4096), j = ix2 b s := ⟨j 0, j 1, eq_ix2 j⟩
    have h := (flush0_14 t).mp hf
    have := b.isLt
    have := s.isLt
    exact leaves_14 m c t.val t.isLt (after 14 t) (hL 14 t hf) b s (by omega))
    fun z => ⟨ptN, (flush0_14 ptN).mpr rfl, by have h := ((cfg0.win 14).blk ptN).view.emb_mem_set z; rwa [em_14] at h⟩

theorem arr_7 : ((rdats m c).withAfter after).arrAt 7 cfg0.N = T7 m c :=
  ((rdats m c).withAfter after).arrAt_eq_of_cover 7 (T7 m c) (fun t hf => by
    show (cfg0.win 7).cut (grid0.coords t) (after 7 t) = _
    funext j
    show after 7 t j = T7 m c (((cfg0.win 7).blk t).view.emb j)
    rw [em_7]
    obtain ⟨b, rfl⟩ : ∃ b : Fin 12, j = ix1 b := ⟨j 0, eq_ix1 j⟩
    have h := (flush0_7 t).mp hf
    have := b.isLt
    exact leaves_7 m c t.val t.isLt (after 7 t) (hL 7 t hf) b (by omega))
    fun z => ⟨ptN, (flush0_7 ptN).mpr rfl, by have h := ((cfg0.win 7).blk ptN).view.emb_mem_set z; rwa [em_7] at h⟩

theorem arr_10 : ((rdats m c).withAfter after).arrAt 10 cfg0.N = T10 m c :=
  ((rdats m c).withAfter after).arrAt_eq_of_cover 10 (T10 m c) (fun t hf => by
    show (cfg0.win 10).cut (grid0.coords t) (after 10 t) = _
    funext j
    show after 10 t j = T10 m c (((cfg0.win 10).blk t).view.emb j)
    rw [em_10]
    obtain ⟨p, d, rfl⟩ : ∃ (p : Fin 64) (d : Fin 2432), j = ix2 p d := ⟨j 0, j 1, eq_ix2 j⟩
    have h := (flush0_10 t).mp hf
    have h96 := lt96 t
    have ht : t.val + 1 = 96 := by omega
    rw [leaves_10 m c p d t.val t.isLt (after 10 t) (hL 10 t hf), ht]
    exact sum_points (dwTerm m c p d))
    fun z => ⟨ptN, (flush0_10 ptN).mpr rfl, by have h := ((cfg0.win 10).blk ptN).view.emb_mem_set z; rwa [em_10] at h⟩

end Cert.KernelIdeal.Gen

end
-- ==== Proof.IRef.lean ====
/- The reference's eight results read at an index: the functions of the arguments of IMath. -/
module

public import Idealize.ShloMosaic.Lib.Pointwise
public import proofs.«01_k».proof.Proof.Gen.ReferenceIdeal.Value
public import proofs.«01_k».proof.Proof.IMath

@[expose] public section

set_option maxRecDepth 16384

noncomputable section

namespace Cert.ReferenceIdeal.Gen

open Idealize.ShloMosaic

/-! ### The payloads cut where a maximum is taken, so that each piece is read by itself -/

/-- The scale column from the column of numbers it is taken of. -/
def RS {F : FTy → Type} [FloatOps F] (v6 : FVec F S12x4096x1 .f32) : FVec F S12x4096x1 .f32 :=
  have v7 : IVec S1x1x253 32 := iota .tc S1x1x253 32 [2] iota_S1x1x253_d2_w32
  have v8 : FVec F S1x1x253 .f32 := sitofp .f32 v7
  have cst_3 : F .f32 := Scalar.ofBits .f32 0x42FA0000#32
  have v9 : FVec F S1x1x253 .f32 := broadcast S1x1x253 cst_3
  have v10 : FVec F S1x1x253 .f32 := subf v8 v9
  have v11 : FVec F S1x1x253 .f32 := exp2 v10
  have v12 : FVec F S12x4096x253 .f32 := broadcastTo S12x4096x253 v11 broadcasts_S1x1x253_S12x4096x253
  have v13 : FVec F S12x4096x253 .f32 := broadcastTo S12x4096x253 v6 broadcasts_S12x4096x1_S12x4096x253
  have v14 : IVec S12x4096x253 1 := cmpf .ogt v12 v13
  have cst_4 : F .f32 := Scalar.ofBits .f32 0x7F800000#32
  have v15 : FVec F S1x1x253 .f32 := shapeCast S1x1x253 v11 shapeCasts_S1x1x253_S1x1x253
  have v16 : FVec F S12x4096x253 .f32 := broadcastTo S12x4096x253 v15 broadcasts_S1x1x253_S12x4096x253
  have v17 : FVec F S12x4096x253 .f32 := broadcast S12x4096x253 cst_4
  have v18 : FVec F S12x4096x253 .f32 := select v14 v16 v17
  have v19 : FVec F S12x4096 .f32 := multiReduction .minimumf [2] S12x4096 v18 0x7F800000#32 reduces_S12x4096x253_S12x4096 (.inl rfl) rfl
  have v20 : FVec F S12x4096x1 .f32 := shapeCast S12x4096x1 v19 shapeCasts_S12x4096_S12x4096x1
  have cst_6 : F .f32 := Scalar.ofBits .f32 0x00800000#32
  have v21 : FVec F S12x4096x1 .f32 := broadcast S12x4096x1 cst_6
  have v22 : IVec S12x4096x1 1 := cmpf .olt v6 v21
  have cst_7 : F .f32 := Scalar.ofBits .f32 0x7F800000#32
  have v23 : FVec F S12x4096x1 .f32 := broadcast S12x4096x1 cst_7
  have v24 : IVec S12x4096x1 1 := cmpf .oeq v6 v23
  have v25 : IVec S12x4096x1 1 := ori v22 v24
  have cst_8 : F .f32 := Scalar.ofBits .f32 0x3F800000#32
  have v26 : FVec F S12x4096x1 .f32 := broadcast S12x4096x1 cst_8
  have v27 : FVec F S12x4096x1 .f32 := select v25 v26 v20
  v27

def RYm {F : FTy → Type} [FloatOps F] (c : BitVec 32) (v3 : FVec F S12x4096 .f32) : FVec F S12x4096x1 .f32 :=
  mulf (shapeCast S12x4096x1 v3 shapeCasts_S12x4096_S12x4096x1) (broadcast S12x4096x1 (Scalar.ofBits .f32 c))
theorem max2432 (v : FVec Ideal S12x4096x2432 .f32) (b : Fin 12) (s : Fin 4096) : multiReduction .maximumf [2] S12x4096 v 0xFF800000#32 reduces_S12x4096x2432_S12x4096 (.inl rfl) rfl (ix2 b s) = Finset.fold max (Ideal.ofBits FTy.f32 4286578688#32) (fun x => v (ix3 b s x)) Finset.univ := by
  pointwise
theorem max64 (v : FVec Ideal S12x4096x64 .f32) (b : Fin 12) (s : Fin 4096) : multiReduction .maximumf [2] S12x4096 v 0xFF800000#32 reduces_S12x4096x64_S12x4096 (.inl rfl) rfl (ix2 b s) = Finset.fold max (Ideal.ofBits FTy.f32 4286578688#32) (fun x => v (ix3 b s x)) Finset.univ := by
  pointwise
theorem RYm_apply (c : BitVec 32) (v : FVec Ideal S12x4096 .f32) (b : Fin 12) (s : Fin 4096) (a : Fin 1) :
    RYm c v (ix3 b s a) = v (ix2 b s) * Ideal.ofBits FTy.f32 c := by
  pointwise [RYm]
theorem pay7_split (v : Vec Ideal S12x4096x2432 .bf16) : k0_pay7 v = RS (RYm 0x3B124925#32 (multiReduction .maximumf [2] S12x4096 (absf (k0_pay6 v)) 0xFF800000#32 reduces_S12x4096x2432_S12x4096 (.inl rfl) rfl)) := rfl
theorem pay6_apply (v : Vec Ideal S12x4096x2432 .bf16) (b : Fin 12) (s : Fin 4096) (d : Fin 2432) : k0_pay6 v (ix3 b s d) = v (ix3 b s d) := rfl

theorem RS_apply (y : FVec Ideal S12x4096x1 .f32) (b : Fin 12) (s : Fin 4096) : RS y (ix3 b s 0) = Scale.rScale (y (ix3 b s 0)) := by
  pointwise [RS]
  rfl

def R8 {F : FTy → Type} [FloatOps F] (v6 : FVec F S12x4096x2432 .f32) (v27 : FVec F S12x4096x1 .f32) : FVec F S12x4096x2432 .fp8e4m3 :=
  have cst_9 : F .f32 := Scalar.ofBits .f32 0x3F800000#32
  have v28 : FVec F S12x4096x1 .f32 := broadcast S12x4096x1 cst_9
  have v29 : FVec F S12x4096x1 .f32 := divf v28 v27
  have cst_10 : F .f32 := Scalar.ofBits .f32 0x00800000#32
  have v30 : FVec F S12x4096x1 .f32 := broadcast S12x4096x1 cst_10
  have v31 : IVec S12x4096x1 1 := cmpf .olt v29 v30
  have cst_11 : F .f32 := Scalar.ofBits .f32 0x00000000#32
  have v32 : FVec F S12x4096x1 .f32 := broadcast S12x4096x1 cst_11
  have v33 : FVec F S12x4096x1 .f32 := select v31 v32 v29
  have v34 : FVec F S12x4096x2432 .f32 := broadcastTo S12x4096x2432 v33 broadcasts_S12x4096x1_S12x4096x2432
  have v35 : FVec F S12x4096x2432 .f32 := mulf v6 v34
  have cst_12 : F .f32 := Scalar.ofBits .f32 0xC3E00000#32
  have cst_13 : F .f32 := Scalar.ofBits .f32 0x43E00000#32
  have v36 : FVec F S12x4096x2432 .f32 := broadcast S12x4096x2432 cst_12
  have v37 : FVec F S12x4096x2432 .f32 := maximumf v36 v35
  have v38 : FVec F S12x4096x2432 .f32 := broadcast S12x4096x2432 cst_13
  have v39 : FVec F S12x4096x2432 .f32 := minimumf v38 v37
  truncf .fp8e4m3 v39 bitsLt_fp8e4m3_f32
theorem pay8_split (v : Vec Ideal S12x4096x2432 .bf16) : k0_pay8 v = R8 (k0_pay6 v) (k0_pay7 v) := rfl
theorem R8_apply (v6 : FVec Ideal S12x4096x2432 .f32) (v27 : FVec Ideal S12x4096x1 .f32) (b : Fin 12) (s : Fin 4096) (d : Fin 2432) :
    R8 v6 v27 (ix3 b s d) = min (Ideal.ofBits FTy.f32 1138753536#32) (max (Ideal.ofBits FTy.f32 3286237184#32)
        (v6 (ix3 b s d) * Scale.rInv (v27 (ix3 b s 0)))) := by
  pointwise [R8]
  rfl

variable (a0 : Vec Ideal S12x4096x2432 .bf16) (a1 : Vec Ideal S2432x64 .fp8e4m3) (a2 a3 : Vec Ideal S64 .f32)
  (a4 a5 : Vec Ideal S12x4096x64 .bf16) (a6 : Vec Ideal S12 .f32)

theorem pay21_eq : k0_pay21 (F := Ideal) a0 a1 a2 a3 a4 a5 a6 = k0_pay7 a0 := by
  unfold k0_pay21; rw [View.ld_unit_zero (S := S12x4096x2432) Value.hz0 _ a0]
theorem pay22_eq : k0_pay22 (F := Ideal) a0 a1 a2 a3 a4 a5 a6 = k0_pay8 a0 := by
  unfold k0_pay22; rw [View.ld_unit_zero (S := S12x4096x2432) Value.hz0 _ a0]

theorem pay7_apply (b : Fin 12) (s : Fin 4096) : k0_pay7 (F := Ideal) a0 (ix3 b s 0) = (Scale.argsOf a0 a1 a2 a3 a4 a5 a6).HS b s := by
  rw [pay7_split, RS_apply, RYm_apply, max2432]
  rfl

theorem pay8_apply (b : Fin 12) (s : Fin 4096) (d : Fin 2432) : k0_pay8 (F := Ideal) a0 (ix3 b s d) = (Scale.argsOf a0 a1 a2 a3 a4 a5 a6).H b s d := by
  rw [pay8_split, R8_apply, pay7_apply a0 a1 a2 a3 a4 a5 a6]
  rfl

theorem pay9_read (v27 : FVec Ideal S12x4096x1 .f32) (v40 : FVec Ideal S12x4096x2432 .fp8e4m3) (b : Fin 12) (s : Fin 4096) (p : Fin 64) :
    k0_pay9 (F := Ideal) v27 v40 a1 a2 a3 (ix3 b s p)
      = (∑ d, v40 (ix3 b s d) * a1 (ix2 d p)) * v27 (ix3 b s 0) * a2 (ix1 p) + a3 (ix1 p) := by
  pointwise [k0_pay9]

theorem pay9_apply (b : Fin 12) (s : Fin 4096) (p : Fin 64) :
    k0_pay9 (F := Ideal) (k0_pay7 a0) (k0_pay8 a0) a1 a2 a3 (ix3 b s p) = (Scale.argsOf a0 a1 a2 a3 a4 a5 a6).P b s p := by
  rw [pay9_read, pay7_apply a0 a1 a2 a3 a4 a5 a6]
  simp only [pay8_apply a0 a1 a2 a3 a4 a5 a6]
  rfl

theorem pay10_read (v27 : FVec Ideal S12x4096x1 .f32) (v40 : FVec Ideal S12x4096x2432 .fp8e4m3) (b : Fin 12) (s : Fin 4096) (p : Fin 64) :
    k0_pay10 (F := Ideal) v27 v40 a1 a2 a3 a5 a4 (ix3 b s p)
      = k0_pay9 (F := Ideal) v27 v40 a1 a2 a3 (ix3 b s p) - (a5 (ix3 b s p) - a4 (ix3 b s p)) := by
  pointwise [k0_pay10]

theorem pay10_apply (b : Fin 12) (s : Fin 4096) (p : Fin 64) :
    k0_pay10 (F := Ideal) (k0_pay7 a0) (k0_pay8 a0) a1 a2 a3 a5 a4 (ix3 b s p) = (Scale.argsOf a0 a1 a2 a3 a4 a5 a6).D b s p := by
  rw [pay10_read, pay9_apply a0 a1 a2 a3 a4 a5 a6]
  rfl

theorem pay11_read (v27 : FVec Ideal S12x4096x1 .f32) (v40 : FVec Ideal S12x4096x2432 .fp8e4m3) (b : Fin 12) :
    k0_pay11 (F := Ideal) v27 v40 a1 a2 a3 a5 a4 a6 (ix1 b)
      = a6 (ix1 b) * Ideal.div (∑ s, ∑ p, k0_pay10 (F := Ideal) v27 v40 a1 a2 a3 a5 a4 (ix3 b s p) * k0_pay10 (F := Ideal) v27 v40 a1 a2 a3 a5 a4 (ix3 b s p))
        (Ideal.ofBits FTy.f32 0x48800000#32) := by
  pointwise [k0_pay11]

theorem pay12_read (v27 : FVec Ideal S12x4096x1 .f32) (v40 : FVec Ideal S12x4096x2432 .fp8e4m3) (b : Fin 12) (s : Fin 4096) (p : Fin 64) :
    k0_pay12 (F := Ideal) v27 v40 a1 a2 a3 a5 a4 a6 (ix3 b s p)
      = k0_pay10 (F := Ideal) v27 v40 a1 a2 a3 a5 a4 (ix3 b s p) * (a6 (ix1 b) * Ideal.ofBits FTy.f32 0x352AAAAB#32) := by
  pointwise [k0_pay12]

theorem pay12_apply (b : Fin 12) (s : Fin 4096) (p : Fin 64) :
    k0_pay12 (F := Ideal) (k0_pay7 a0) (k0_pay8 a0) a1 a2 a3 a5 a4 a6 (ix3 b s p) = (Scale.argsOf a0 a1 a2 a3 a4 a5 a6).G b s p := by
  rw [pay12_read, pay10_apply a0 a1 a2 a3 a4 a5 a6]
  rfl

theorem pay13_split (v27 : FVec Ideal S12x4096x1 .f32) (v40 : FVec Ideal S12x4096x2432 .fp8e4m3) :
    k0_pay13 (F := Ideal) v27 v40 a1 a2 a3 a5 a4 a6
      = RYm 0x37924925#32 (multiReduction .maximumf [2] S12x4096 (absf (k0_pay12 (F := Ideal) v27 v40 a1 a2 a3 a5 a4 a6)) 0xFF800000#32 reduces_S12x4096x64_S12x4096 (.inl rfl) rfl) := rfl

theorem absf_read (v : FVec Ideal S12x4096x64 .f32) (b : Fin 12) (s : Fin 4096) (p : Fin 64) :
    absf v (ix3 b s p) = max (v (ix3 b s p)) (-(v (ix3 b s p))) := rfl

theorem pay13_apply (b : Fin 12) (s : Fin 4096) :
    k0_pay13 (F := Ideal) (k0_pay7 a0) (k0_pay8 a0) a1 a2 a3 a5 a4 a6 (ix3 b s 0) = (Scale.argsOf a0 a1 a2 a3 a4 a5 a6).YG b s := by
  rw [pay13_split, RYm_apply, max64]
  simp only [absf_read, pay12_apply a0 a1 a2 a3 a4 a5 a6]
  rfl

theorem pay16_split (v27 : FVec Ideal S12x4096x1 .f32) (v40 : FVec Ideal S12x4096x2432 .fp8e4m3) :
    k0_pay16 (F := Ideal) (k0_pay13 v27 v40 a1 a2 a3 a5 a4 a6) k0_pay14 (k0_pay15 v27 v40 a1 a2 a3 a5 a4 a6) (Scalar.ofBits .f32 0x7F800000#32)
      = RS (k0_pay13 v27 v40 a1 a2 a3 a5 a4 a6) := rfl

/-- The gradient's scale column. -/
def DSc : FVec Ideal S12x4096x1 .f32 :=
  k0_pay16 (F := Ideal) (k0_pay13 (k0_pay7 a0) (k0_pay8 a0) a1 a2 a3 a5 a4 a6) k0_pay14 (k0_pay15 (k0_pay7 a0) (k0_pay8 a0) a1 a2 a3 a5 a4 a6) (Scalar.ofBits .f32 0x7F800000#32)

/-- The gradient's codes. -/
def DVc : FVec Ideal S12x4096x64 .fp8e5m2 :=
  k0_pay17 (F := Ideal) (k0_pay12 (k0_pay7 a0) (k0_pay8 a0) a1 a2 a3 a5 a4 a6) (k0_pay13 (k0_pay7 a0) (k0_pay8 a0) a1 a2 a3 a5 a4 a6) k0_pay14 (k0_pay15 (k0_pay7 a0) (k0_pay8 a0) a1 a2 a3 a5 a4 a6) (Scalar.ofBits .f32 0x7F800000#32)

theorem DSc_apply (b : Fin 12) (s : Fin 4096) : DSc a0 a1 a2 a3 a4 a5 a6 (ix3 b s 0) = (Scale.argsOf a0 a1 a2 a3 a4 a5 a6).DS b s := by
  rw [DSc, pay16_split, RS_apply, pay13_apply a0 a1 a2 a3 a4 a5 a6]
  rfl

theorem pay17_read (v70 : FVec Ideal S12x4096x64 .f32) (v75 : FVec Ideal S12x4096x1 .f32) (v80 : FVec Ideal S1x1x253 .f32) (v83 : IVec S12x4096x253 1) (z : Ideal .f32)
    (b : Fin 12) (s : Fin 4096) (p : Fin 64) :
    k0_pay17 (F := Ideal) v70 v75 v80 v83 z (ix3 b s p)
      = min (Ideal.ofBits FTy.f32 0x47600000#32) (max (Ideal.ofBits FTy.f32 0xC7600000#32)
        (v70 (ix3 b s p) * Scale.rInv (k0_pay16 (F := Ideal) v75 v80 v83 z (ix3 b s 0)))) := by
  pointwise [k0_pay17]
  rfl

theorem DVc_apply (b : Fin 12) (s : Fin 4096) (p : Fin 64) : DVc a0 a1 a2 a3 a4 a5 a6 (ix3 b s p) = (Scale.argsOf a0 a1 a2 a3 a4 a5 a6).DV b s p := by
  rw [DVc, pay17_read, pay12_apply a0 a1 a2 a3 a4 a5 a6]
  rw [show k0_pay16 (F := Ideal) (k0_pay13 (k0_pay7 a0) (k0_pay8 a0) a1 a2 a3 a5 a4 a6) k0_pay14 (k0_pay15 (k0_pay7 a0) (k0_pay8 a0) a1 a2 a3 a5 a4 a6) (Scalar.ofBits .f32 0x7F800000#32) = DSc a0 a1 a2 a3 a4 a5 a6 from rfl,
    DSc_apply]
  rfl

theorem pay18_read (v70 : FVec Ideal S12x4096x64 .f32) (v75 : FVec Ideal S12x4096x1 .f32) (v80 : FVec Ideal S1x1x253 .f32) (v83 : IVec S12x4096x253 1) (z : Ideal .f32)
    (b : Fin 12) (s : Fin 4096) (d : Fin 2432) :
    k0_pay18 (F := Ideal) v70 v75 v80 v83 z a1 a2 (ix3 b s d)
      = (∑ p, k0_pay17 (F := Ideal) v70 v75 v80 v83 z (ix3 b s p) * (a1 (ix2 d p) * a2 (ix1 p))) * k0_pay16 (F := Ideal) v75 v80 v83 z (ix3 b s 0) := by
  pointwise [k0_pay18]

theorem pay2_read (v : FVec Ideal S12x4096x2432 .bf16) (v' : FVec Ideal S12x4096x64 .bf16) (p : Fin 64) (d : Fin 2432) :
    k0_pay2 (F := Ideal) v v' (constant S2432x64 .f32 0x00000000#32) (ix2 p d) = ∑ b, ∑ s, v (ix3 b s d) * v' (ix3 b s p) := by
  pointwise [k0_pay2]

theorem pay19_read (v27 : FVec Ideal S12x4096x1 .f32) (v40 : FVec Ideal S12x4096x2432 .fp8e4m3) (b : Fin 12) (s : Fin 4096) (d : Fin 2432) :
    k0_pay19 (F := Ideal) v27 v40 (ix3 b s d) = v40 (ix3 b s d) * v27 (ix3 b s 0) := by
  pointwise [k0_pay19]

theorem pay20_read (v70 : FVec Ideal S12x4096x64 .f32) (v75 : FVec Ideal S12x4096x1 .f32) (v80 : FVec Ideal S1x1x253 .f32) (v83 : IVec S12x4096x253 1) (z : Ideal .f32)
    (b : Fin 12) (s : Fin 4096) (p : Fin 64) :
    k0_pay20 (F := Ideal) v70 v75 v80 v83 z (ix3 b s p)
      = k0_pay17 (F := Ideal) v70 v75 v80 v83 z (ix3 b s p) * k0_pay16 (F := Ideal) v75 v80 v83 z (ix3 b s 0) := by
  pointwise [k0_pay20]

theorem pay1_read (v : FVec Ideal S12x4096x64 .f32) (b : Fin 12) (p : Fin 64) (s : Fin 4096) :
    k0_pay1 (F := Ideal) v (ix3 b p s) = v (ix3 b s p) := by
  pointwise [k0_pay1]
theorem pay3_read (v : FVec Ideal S12x4096x1 .f32) (b : Fin 12) (s : Fin 4096) :
    k0_pay3 (F := Ideal) v (ix2 b s) = v (ix3 b s 0) := by
  pointwise [k0_pay3]
theorem pay4_read (v : FVec Ideal S12x4096x64 .fp8e5m2) (b : Fin 12) (p : Fin 64) (s : Fin 4096) :
    k0_pay4 (F := Ideal) v (ix3 b p s) = v (ix3 b s p) := by
  pointwise [k0_pay4]
theorem pay5_read (v : FVec Ideal S12x4096x1 .f32) (b : Fin 12) (s : Fin 4096) :
    k0_pay5 (F := Ideal) v (ix2 b s) = v (ix3 b s 0) := by
  pointwise [k0_pay5]

theorem pay23_eq : k0_pay23 (F := Ideal) a0 a1 a2 a3 a4 a5 a6 = k0_pay12 (k0_pay7 a0) (k0_pay8 a0) a1 a2 a3 a5 a4 a6 := by
  unfold k0_pay23
  rw [pay21_eq, pay22_eq, View.ld_unit_zero (S := S2432x64) Value.hz1 _ a1, View.ld_unit_zero (S := S64) Value.hz2 _ a2, View.ld_unit_zero (S := S64) Value.hz3 _ a3, View.ld_unit_zero (S := S12x4096x64) Value.hz5 _ a5, View.ld_unit_zero (S := S12x4096x64) Value.hz4 _ a4, View.ld_unit_zero (S := S12) Value.hz6 _ a6]
theorem pay24_eq : k0_pay24 (F := Ideal) a0 a1 a2 a3 a4 a5 a6 = k0_pay13 (k0_pay7 a0) (k0_pay8 a0) a1 a2 a3 a5 a4 a6 := by
  unfold k0_pay24
  rw [pay21_eq, pay22_eq, View.ld_unit_zero (S := S2432x64) Value.hz1 _ a1, View.ld_unit_zero (S := S64) Value.hz2 _ a2, View.ld_unit_zero (S := S64) Value.hz3 _ a3, View.ld_unit_zero (S := S12x4096x64) Value.hz5 _ a5, View.ld_unit_zero (S := S12x4096x64) Value.hz4 _ a4, View.ld_unit_zero (S := S12) Value.hz6 _ a6]
theorem pay26_eq : k0_pay26 (F := Ideal) a0 a1 a2 a3 a4 a5 a6 = k0_pay15 (k0_pay7 a0) (k0_pay8 a0) a1 a2 a3 a5 a4 a6 := by
  unfold k0_pay26
  rw [pay21_eq, pay22_eq, View.ld_unit_zero (S := S2432x64) Value.hz1 _ a1, View.ld_unit_zero (S := S64) Value.hz2 _ a2, View.ld_unit_zero (S := S64) Value.hz3 _ a3, View.ld_unit_zero (S := S12x4096x64) Value.hz5 _ a5, View.ld_unit_zero (S := S12x4096x64) Value.hz4 _ a4, View.ld_unit_zero (S := S12) Value.hz6 _ a6]
theorem pay16_eq : k0_pay16 (F := Ideal) (k0_pay24 a0 a1 a2 a3 a4 a5 a6) (k0_pay25 a0 a1 a2 a3 a4 a5 a6) (k0_pay26 a0 a1 a2 a3 a4 a5 a6) (Scalar.ofBits .f32 0x7F800000#32) = DSc a0 a1 a2 a3 a4 a5 a6 := by
  rw [pay24_eq, pay26_eq]; rfl
theorem pay17_eq : k0_pay17 (F := Ideal) (k0_pay23 a0 a1 a2 a3 a4 a5 a6) (k0_pay24 a0 a1 a2 a3 a4 a5 a6) (k0_pay25 a0 a1 a2 a3 a4 a5 a6) (k0_pay26 a0 a1 a2 a3 a4 a5 a6) (Scalar.ofBits .f32 0x7F800000#32) = DVc a0 a1 a2 a3 a4 a5 a6 := by
  rw [pay23_eq, pay24_eq, pay26_eq]; rfl

/-! ### The eight results -/

theorem G7_apply (b : Fin 12) : Value.G7 (F := Ideal) a0 a1 a2 a3 a4 a5 a6 (ix1 b) = (Scale.argsOf a0 a1 a2 a3 a4 a5 a6).LO b := by
  unfold Value.G7
  rw [pay21_eq, pay22_eq, pay11_read]
  simp only [pay10_apply a0 a1 a2 a3 a4 a5 a6]
  rfl
theorem G8_apply (b : Fin 12) (p : Fin 64) (s : Fin 4096) : Value.G8 (F := Ideal) a0 a1 a2 a3 a4 a5 a6 (ix3 b p s) = (Scale.argsOf a0 a1 a2 a3 a4 a5 a6).P b s p := by
  unfold Value.G8
  rw [pay21_eq, pay22_eq, pay1_read, pay9_apply a0 a1 a2 a3 a4 a5 a6]
theorem G9_apply (b : Fin 12) (s : Fin 4096) (d : Fin 2432) : Value.G9 (F := Ideal) a0 a1 a2 a3 a4 a5 a6 (ix3 b s d) = (Scale.argsOf a0 a1 a2 a3 a4 a5 a6).DH b s d := by
  unfold Value.G9
  rw [pay18_read, pay16_eq, pay17_eq, DSc_apply]
  simp only [DVc_apply]
  rfl
theorem G10_apply (p : Fin 64) (d : Fin 2432) : Value.G10 (F := Ideal) a0 a1 a2 a3 a4 a5 a6 (ix2 p d) = (Scale.argsOf a0 a1 a2 a3 a4 a5 a6).DW p d := by
  unfold Value.G10
  rw [pay2_read]
  simp only [pay19_read, pay20_read, pay16_eq, pay17_eq, DVc_apply, DSc_apply]
  rw [pay21_eq, pay22_eq]
  simp only [pay7_apply a0 a1 a2 a3 a4 a5 a6, pay8_apply a0 a1 a2 a3 a4 a5 a6]
  rfl
theorem G11_apply (b : Fin 12) (s : Fin 4096) (d : Fin 2432) : Value.G11 (F := Ideal) a0 a1 a2 a3 a4 a5 a6 (ix3 b s d) = (Scale.argsOf a0 a1 a2 a3 a4 a5 a6).H b s d := by
  unfold Value.G11
  rw [pay22_eq, pay8_apply a0 a1 a2 a3 a4 a5 a6]
theorem G12_apply (b : Fin 12) (s : Fin 4096) : Value.G12 (F := Ideal) a0 a1 a2 a3 a4 a5 a6 (ix2 b s) = (Scale.argsOf a0 a1 a2 a3 a4 a5 a6).HS b s := by
  unfold Value.G12
  rw [pay21_eq, pay3_read, pay7_apply a0 a1 a2 a3 a4 a5 a6]
theorem G13_apply (b : Fin 12) (p : Fin 64) (s : Fin 4096) : Value.G13 (F := Ideal) a0 a1 a2 a3 a4 a5 a6 (ix3 b p s) = (Scale.argsOf a0 a1 a2 a3 a4 a5 a6).DV b s p := by
  unfold Value.G13
  rw [pay4_read, pay17_eq, DVc_apply]
theorem G14_apply (b : Fin 12) (s : Fin 4096) : Value.G14 (F := Ideal) a0 a1 a2 a3 a4 a5 a6 (ix2 b s) = (Scale.argsOf a0 a1 a2 a3 a4 a5 a6).DS b s := by
  unfold Value.G14
  rw [pay5_read, pay16_eq, DSc_apply]

end Cert.ReferenceIdeal.Gen
-- ==== Proof.IEnd.lean ====
/- The kernel's run and the reference's run end with the same eight arrays. -/
module

public import proofs.«01_k».proof.Proof.IAcc
public import proofs.«01_k».proof.Proof.IRef

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

/-! ### The reference's arrays, of the kernel's arguments -/

theorem T7_eq : T7 m c = ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨b, rfl⟩ : ∃ b : Fin 12, z = ix1 b := ⟨z 0, eq_ix1 z⟩
  exact (ReferenceIdeal.Gen.G7_apply _ _ _ _ _ _ _ b).symm

theorem T8_eq : T8 m c = ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨b, p, s, rfl⟩ : ∃ (b : Fin 12) (p : Fin 64) (s : Fin 4096), z = ix3 b p s := ⟨z 0, z 1, z 2, eq_ix3 z⟩
  exact (ReferenceIdeal.Gen.G8_apply _ _ _ _ _ _ _ b p s).symm

theorem T9_eq : T9 m c = ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨b, s, d, rfl⟩ : ∃ (b : Fin 12) (s : Fin 4096) (d : Fin 2432), z = ix3 b s d := ⟨z 0, z 1, z 2, eq_ix3 z⟩
  exact (ReferenceIdeal.Gen.G9_apply _ _ _ _ _ _ _ b s d).symm

theorem T10_eq : T10 m c = ReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨p, d, rfl⟩ : ∃ (p : Fin 64) (d : Fin 2432), z = ix2 p d := ⟨z 0, z 1, eq_ix2 z⟩
  exact (ReferenceIdeal.Gen.G10_apply _ _ _ _ _ _ _ p d).symm

theorem T11_eq : T11 m c = ReferenceIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨b, s, d, rfl⟩ : ∃ (b : Fin 12) (s : Fin 4096) (d : Fin 2432), z = ix3 b s d := ⟨z 0, z 1, z 2, eq_ix3 z⟩
  exact (ReferenceIdeal.Gen.G11_apply _ _ _ _ _ _ _ b s d).symm

theorem T12_eq : T12 m c = ReferenceIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨b, s, rfl⟩ : ∃ (b : Fin 12) (s : Fin 4096), z = ix2 b s := ⟨z 0, z 1, eq_ix2 z⟩
  exact (ReferenceIdeal.Gen.G12_apply _ _ _ _ _ _ _ b s).symm

theorem T13_eq : T13 m c = ReferenceIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨b, p, s, rfl⟩ : ∃ (b : Fin 12) (p : Fin 64) (s : Fin 4096), z = ix3 b p s := ⟨z 0, z 1, z 2, eq_ix3 z⟩
  exact (ReferenceIdeal.Gen.G13_apply _ _ _ _ _ _ _ b p s).symm

theorem T14_eq : T14 m c = ReferenceIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext z
  obtain ⟨b, s, rfl⟩ : ∃ (b : Fin 12) (s : Fin 4096), z = ix2 b s := ⟨z 0, z 1, eq_ix2 z⟩
  exact (ReferenceIdeal.Gen.G14_apply _ _ _ _ _ _ _ b s).symm

/-- The kernel's result arrays. -/
theorem results_of_post {r : PUnit × MemSt nD τ sig (Elt Ideal)} (h : Pipeline.RDat.FramePost (cfgs 0) (fun c => rdats m c) (V m) r) (c : Dev nD) :
    r.2.mem ((c.tc : Thread nD τ).loc main_v5_0) = T7 m c
    ∧ r.2.mem ((c.tc : Thread nD τ).loc main_v5_1) = T8 m c
    ∧ r.2.mem ((c.tc : Thread nD τ).loc main_v5_2) = T9 m c
    ∧ r.2.mem ((c.tc : Thread nD τ).loc main_v5_3) = T10 m c
    ∧ r.2.mem ((c.tc : Thread nD τ).loc main_v5_4) = T11 m c
    ∧ r.2.mem ((c.tc : Thread nD τ).loc main_v5_5) = T12 m c
    ∧ r.2.mem ((c.tc : Thread nD τ).loc main_v5_6) = T13 m c
    ∧ r.2.mem ((c.tc : Thread nD τ).loc main_v5_7) = T14 m c := by
  obtain ⟨after, hL, hA⟩ := h.exists_exact c
  exact ⟨(hA 7).trans (arr_7 m c after hL), (hA 8).trans (arr_8 m c after hL), (hA 9).trans (arr_9 m c after hL),
    (hA 10).trans (arr_10 m c after hL), (hA 11).trans (arr_11 m c after hL), (hA 12).trans (arr_12 m c after hL),
    (hA 13).trans (arr_13 m c after hL), (hA 14).trans (arr_14 m c after hL)⟩

end Cert.KernelIdeal.Gen

end
-- ==== Proof.lean ====
/- The claims proved: the three programs run and keep their arguments; read over the extended reals, the kernel and
   the reference end with equal results. -/
module

public import proofs.«01_k».proof.Defs
public import proofs.«01_k».proof.Proof.Gen.Kernel
public import proofs.«01_k».proof.Proof.KFrame
public import proofs.«01_k».proof.Proof.Gen.KernelIdeal.Frame
public import proofs.«01_k».proof.Proof.Gen.KernelIdeal.Skeleton
public import proofs.«01_k».proof.Proof.Gen.ReferenceIdeal.Value
public import proofs.«01_k».proof.Proof.IEnd

@[expose] public section

noncomputable section

namespace Cert.Proof

open Idealize.ShloMosaic Idealize.ShloMosaic.TcCoe Idealize.SL.Sem

theorem algebraic : algebraic_KernelIdeal_ReferenceIdeal (hKernelIdeal := Cert.KernelIdeal.Gen.facts)
    (hReferenceIdeal := Cert.ReferenceIdeal.Gen.facts) := by
  intro m g m' g' _ hargs
  refine ⟨Cert.KernelIdeal.Gen.T7 m, Cert.KernelIdeal.Gen.T8 m, Cert.KernelIdeal.Gen.T9 m, Cert.KernelIdeal.Gen.T10 m,
    Cert.KernelIdeal.Gen.T11 m, Cert.KernelIdeal.Gen.T12 m, Cert.KernelIdeal.Gen.T13 m, Cert.KernelIdeal.Gen.T14 m, ?_, ?_⟩
  · refine (θ_run _ _ _).mono (fun r h c => ?_) (Cert.KernelIdeal.Gen.run_main m g)
    obtain ⟨h7, h8, h9, h10, h11, h12, h13, h14⟩ := Cert.KernelIdeal.Gen.results_of_post m h.1 c
    exact ⟨h7, h8, h9, h10, h11, h12, h13, h14, Cert.KernelIdeal.Gen.args_of_post m h.1 c⟩
  · refine (θ_run _ _ _).mono (fun r h c => ?_) (Cert.ReferenceIdeal.Value.run m' g')
    obtain ⟨h7, h8, h9, h10, h11, h12, h13, h14, ha⟩ := h c
    obtain ⟨e0, e1, e2, e3, e4, e5, e6⟩ := hargs c
    rw [e0, e1, e2, e3, e4, e5, e6] at h7 h8 h9 h10 h11 h12 h13 h14
    exact ⟨h7.trans (Cert.KernelIdeal.Gen.T7_eq m c).symm, h8.trans (Cert.KernelIdeal.Gen.T8_eq m c).symm,
      h9.trans (Cert.KernelIdeal.Gen.T9_eq m c).symm, h10.trans (Cert.KernelIdeal.Gen.T10_eq m c).symm,
      h11.trans (Cert.KernelIdeal.Gen.T11_eq m c).symm, h12.trans (Cert.KernelIdeal.Gen.T12_eq m c).symm,
      h13.trans (Cert.KernelIdeal.Gen.T13_eq m c).symm, h14.trans (Cert.KernelIdeal.Gen.T14_eq m c).symm, ha⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
